-- ==== Defs.lean ====
def Pre_Kernel [hPre_positions_not_negative : Cert.Pre_positions_not_negative.Facts] (m : (ℓ : Loc Cert.Kernel.nD Cert.Kernel.τ Cert.Kernel.sig) → Buf (Elt Bits) ℓ) : Prop :=
  ∀ c : Dev Cert.Kernel.nD,
    (Cert.Pre_positions_not_negative.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_positions_not_negative : Cert.Pre_positions_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_positions_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_positions_not_negative : Cert.Pre_positions_not_negative.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_positions_not_negative : Cert.Pre_positions_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positions_not_negative : Cert.Pre_positions_not_negative.Facts) (hPre_uniform_grid : Cert.Pre_uniform_grid.Facts),
    quiescent_Kernel (hKernel := hKernel) (hPre_positions_not_negative := hPre_positions_not_negative)
    ∧ quiescent_KernelIdeal (hKernelIdeal := hKernelIdeal) (hPre_positions_not_negative := hPre_positions_not_negative)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_positions_not_negative.lean ====
abbrev S6400000 : Shape := ⟨1, ![6400000]⟩
abbrev S8 : Shape := ⟨1, ![8]⟩
abbrev S5000 : Shape := ⟨1, ![5000]⟩
abbrev S5000x8 : Shape := ⟨2, ![5000, 8]⟩
abbrev S_ : Shape := ⟨0, ![]⟩

class Facts : Prop where
  reducesTo_S5000_S_d0 : S5000.ReducesTo [0] S_
  h_S_ : 0 < S_.numel
  bcast_S_S6400000 : S_.BroadcastsInDim S6400000 (![] : Fin 0 → Fin S6400000.rank)

variable [Facts]

def fn {F : FTy → Type} [FloatOps F] (main_arg0 : FVec F S6400000 .f32) (main_arg1 : FVec F S8 .f32) (main_arg2 : FVec F S5000 .f32) (main_arg3 : FVec F S5000x8 .f32) : IVec S6400000 1 :=
  let main_cst : FVec F S_ .f32 := constant S_ .f32 0xFF800000#32
  let main_v0 : FVec F S_ .f32 := (fun x v => Host.reduce FloatOps.maximumf x v reducesTo_S5000_S_d0 h_S_) main_arg2 main_cst
  let main_v1 : FVec F S6400000 .f32 := broadcastInDim S6400000 ![] bcast_S_S6400000 main_v0
  let main_v2 : FVec F S6400000 .f32 := minimumf main_arg0 main_v1
  let main_cst_0 : FVec F S_ .f32 := constant S_ .f32 0xFF800000#32
  let main_v3 : FVec F S_ .f32 := (fun x v => Host.reduce FloatOps.maximumf x v reducesTo_S5000_S_d0 h_S_) main_arg2 main_cst_0
  let main_cst_1 : FVec F S_ .f32 := constant S_ .f32 0x459C3800#32
  let main_v4 : FVec F S_ .f32 := Host.divf main_cst_1 main_v3
  let main_v5 : FVec F S6400000 .f32 := broadcastInDim S6400000 ![] bcast_S_S6400000 main_v4
  let main_v6 : FVec F S6400000 .f32 := mulf main_v2 main_v5
  let main_v7 : IVec S6400000 32 := fptosi 32 main_v6
  let main_c : IVec S_ 32 := constantI S_ 32 0#32
  let main_v8 : IVec S6400000 32 := broadcastInDim S6400000 ![] bcast_S_S6400000 main_c
  let main_v9 : IVec S6400000 1 := cmpi .sge main_v7 main_v8
  main_v9
-- ==== Pre_uniform_grid.lean ====
abbrev S6400000 : Shape := ⟨1, ![6400000]⟩
abbrev S8 : Shape := ⟨1, ![8]⟩
abbrev S5000 : Shape := ⟨1, ![5000]⟩
abbrev S5000x8 : Shape := ⟨2, ![5000, 8]⟩
abbrev S1 : Shape := ⟨1, ![1]⟩
abbrev S_ : Shape := ⟨0, ![]⟩

class Facts : Prop where
  slices_S5000_S1_4999 : S5000.Slices ![4999] S1
  shapeCasts_S1_S_ : S1.ShapeCasts S_
  bcast_S_S5000 : S_.BroadcastsInDim S5000 (![] : Fin 0 → Fin S5000.rank)
  reducesTo_S5000_S_d0 : S5000.ReducesTo [0] S_
  h_S_ : 0 < S_.numel
  bcast_S_S6400000 : S_.BroadcastsInDim S6400000 (![] : Fin 0 → Fin S6400000.rank)

variable [Facts]

def fn_part1 {F : FTy → Type} [FloatOps F] (main_v16 : IVec S6400000 1) (main_v18 : IVec S6400000 1) : IVec S6400000 1 :=
  let main_v19 : IVec S6400000 1 := andi main_v16 main_v18
  main_v19

def fn {F : FTy → Type} [FloatOps F] (main_arg0 : FVec F S6400000 .f32) (main_arg1 : FVec F S8 .f32) (main_arg2 : FVec F S5000 .f32) (main_arg3 : FVec F S5000x8 .f32) : IVec S6400000 1 :=
  let main_v0 : IVec S5000 32 := iotaInDim S5000 32 0
  let main_v1 : FVec F S5000 .f32 := sitofp .f32 main_v0
  let main_v2 : FVec F S1 .f32 := (extractStridedSlice S1 ![4999] · slices_S5000_S1_4999) main_arg2
  let main_v3 : FVec F S_ .f32 := shapeCast S_ main_v2 shapeCasts_S1_S_
  let main_cst : FVec F S_ .f32 := constant S_ .f32 0x459C3800#32
  let main_v4 : FVec F S5000 .f32 := broadcastInDim S5000 ![] bcast_S_S5000 main_cst
  let main_v5 : FVec F S5000 .f32 := mulf main_v4 main_arg2
  let main_v6 : FVec F S5000 .f32 := broadcastInDim S5000 ![] bcast_S_S5000 main_v3
  let main_v7 : FVec F S5000 .f32 := mulf main_v1 main_v6
  let main_v8 : IVec S5000 1 := cmpf .oeq main_v5 main_v7
  let main_c : IVec S_ 1 := constantI S_ 1 1#1
  let main_v9 : IVec S_ 1 := (fun x v => Host.reduce IntOp.andi x v reducesTo_S5000_S_d0 h_S_) main_v8 main_c
  let main_cst_0 : FVec F S_ .f32 := constant S_ .f32 0x00000000#32
  let main_v10 : FVec F S6400000 .f32 := broadcastInDim S6400000 ![] bcast_S_S6400000 main_cst_0
  let main_v11 : IVec S6400000 1 := cmpf .oge main_arg0 main_v10
  let main_v12 : IVec S6400000 1 := broadcastInDim S6400000 ![] bcast_S_S6400000 main_v9
  let main_v13 : IVec S6400000 1 := andi main_v11 main_v12
  let main_cst_1 : FVec F S_ .f32 := constant S_ .f32 0x00000000#32
  let main_v14 : IVec S_ 1 := cmpf .oge main_v3 main_cst_1
  let main_v15 : IVec S6400000 1 := broadcastInDim S6400000 ![] bcast_S_S6400000 main_v14
  let main_v16 : IVec S6400000 1 := andi main_v13 main_v15
  let main_cst_2 : FVec F S_ .f32 := constant S_ .f32 0x7F800000#32
  let main_v17 : IVec S_ 1 := cmpf .olt main_v3 main_cst_2
  let main_v18 : IVec S6400000 1 := broadcastInDim S6400000 ![] bcast_S_S6400000 main_v17
  fn_part1 (F := F) main_v16 main_v18
-- ==== Kernel.lean ====
abbrev S6400000 : Shape := ⟨1, ![6400000]⟩
abbrev S8 : Shape := ⟨1, ![8]⟩
abbrev S5000 : Shape := ⟨1, ![5000]⟩
abbrev S5000x8 : Shape := ⟨2, ![5000, 8]⟩
abbrev S_ : Shape := ⟨0, ![]⟩
abbrev S16 : Shape := ⟨1, ![16]⟩
abbrev S1x8 : Shape := ⟨2, ![1, 8]⟩
abbrev S2x8 : Shape := ⟨2, ![2, 8]⟩
abbrev S48 : Shape := ⟨1, ![48]⟩
abbrev S40000 : Shape := ⟨1, ![40000]⟩
abbrev S50000x8x128 : Shape := ⟨3, ![50000, 8, 128]⟩
abbrev S3200 : Shape := ⟨1, ![3200]⟩
abbrev S25x8x128 : Shape := ⟨3, ![25, 8, 128]⟩
abbrev S1x1x16 : Shape := ⟨3, ![1, 1, 16]⟩
abbrev S50000x128x8 : Shape := ⟨3, ![50000, 128, 8]⟩
abbrev S6400000x8 : Shape := ⟨2, ![6400000, 8]⟩

abbrev nBuf : Table → Nat
  | .hbm => 18
  | .local .scVector .vmem => 4
  | _ => 0

abbrev bufTy : (tb : Table) → Fin (nBuf tb) → BufTy
  | .hbm, ⟨0, _⟩ => ⟨S6400000, .f32⟩
  | .hbm, ⟨1, _⟩ => ⟨S8, .f32⟩
  | .hbm, ⟨2, _⟩ => ⟨S5000, .f32⟩
  | .hbm, ⟨3, _⟩ => ⟨S5000x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S1x8, .f32⟩
  | .hbm, ⟨11, _⟩ => ⟨S2x8, .f32⟩
  | .hbm, ⟨12, _⟩ => ⟨S16, .f32⟩
  | .hbm, ⟨13, _⟩ => ⟨S48, .f32⟩
  | .hbm, ⟨14, _⟩ => ⟨S40000, .f32⟩
  | .hbm, ⟨15, _⟩ => ⟨S50000x8x128, .f32⟩
  | .hbm, ⟨16, _⟩ => ⟨S50000x128x8, .f32⟩
  | .hbm, ⟨17, _⟩ => ⟨S6400000x8, .f32⟩
  | .local .scVector .vmem, ⟨0, _⟩ => ⟨S40000, .f32⟩
  | .local .scVector .vmem, ⟨1, _⟩ => ⟨S3200, .f32⟩
  | .local .scVector .vmem, ⟨2, _⟩ => ⟨S25x8x128, .f32⟩
  | .local .scVector .vmem, ⟨3, _⟩ => ⟨S48, .f32⟩
  | _, _ => ⟨S6400000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_arg0_scv : Ref sig .scVector := ⟨.hbm, 0, rfl⟩
abbrev main_v8_scv : Ref sig .scVector := ⟨.hbm, 14, rfl⟩
abbrev main_v7_scv : Ref sig .scVector := ⟨.hbm, 13, rfl⟩
abbrev main_v9_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2500_i32 : BitVec 32 := 2500#32
  let v5 : BitVec 32 := Scalar.addi c0_i32_0 c2500_i32
  let c1_i32 : BitVec 32 := 1#32
  ⟨c0_i32_0, v5, c1_i32⟩
def k0_off1 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v34 : BitVec 32 := Scalar.muli arg10 c16_i32
  let v35 : Index := Scalar.indexCast v34
  ![v35.toNat]
@[reducible] def k0_t2_loop (i : grid0.Coords) : Scf.Loop 32 :=
  let c0_i32_9 : BitVec 32 := 0#32
  let c1999_i32 : BitVec 32 := 1999#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v8 : BitVec 32 := Scalar.subi c1999_i32 v1
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c32_i32 : BitVec 32 := 32#32
  let c0_i32_4 : BitVec 32 := 0#32
  let v15 : BitVec 1 := Scalar.cmpi .sgt c32_i32 c0_i32_4
  let v16 : BitVec 32 := Scalar.extui v15
  let c0_i32_5 : BitVec 32 := 0#32
  let v17 : BitVec 1 := Scalar.cmpi .slt c32_i32 c0_i32_5
  let v18 : BitVec 32 := Scalar.extui v17
  let v19 : BitVec 32 := Scalar.subi v16 v18
  let v20 : BitVec 1 := Scalar.cmpi .ne v14 v19
  let v21 : BitVec 32 := Scalar.remsi v8 c32_i32
  let c0_i32_6 : BitVec 32 := 0#32
  let v22 : BitVec 1 := Scalar.cmpi .ne v21 c0_i32_6
  let v23 : BitVec 1 := Scalar.andi v20 v22
  let v9 : BitVec 32 := Scalar.divsi v8 c32_i32
  let c1_i32_7 : BitVec 32 := 1#32
  let v24 : BitVec 32 := Scalar.subi v9 c1_i32_7
  let v25 : BitVec 32 := Scalar.select v23 v24 v9
  let c1_i32_8 : BitVec 32 := 1#32
  let v26 : BitVec 32 := Scalar.addi v25 c1_i32_8
  let v27 : BitVec 32 := Scalar.subi v26 c0_i32_9
  let c1_i32_11 : BitVec 32 := 1#32
  let v29 : BitVec 32 := Scalar.divsi v27 c1_i32_11
  let v30 : BitVec 32 := Scalar.muli v29 c1_i32_11
  let v31 : BitVec 32 := Scalar.addi c0_i32_9 v30
  let c1_i32_12 : BitVec 32 := 1#32
  ⟨c0_i32_9, v31, c1_i32_12⟩
def k0_off2 (i : grid0.Coords) (k0_t2 : Fin (k0_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32_12 : BitVec 32 := 1#32
  let arg10 : BitVec 32 := Scf.iv c0_i32_9 c1_i32_12 k0_t2
  let c32_i32_14 : BitVec 32 := 32#32
  let v34 : BitVec 32 := Scalar.muli arg10 c32_i32_14
  let v35 : BitVec 32 := Scalar.addi v1 v34
  let c3200_i32 : BitVec 32 := 3200#32
  let v36 : BitVec 32 := Scalar.muli v35 c3200_i32
  ![v36.toNat]
@[reducible] def k0_t3_loop : Scf.Loop 32 :=
  let c0_i32_16 : BitVec 32 := 0#32
  let c25_i32 : BitVec 32 := 25#32
  let v37 : BitVec 32 := Scalar.addi c0_i32_16 c25_i32
  let c1_i32_17 : BitVec 32 := 1#32
  ⟨c0_i32_16, v37, c1_i32_17⟩
def k0_off3 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32 : BitVec 32 := 128#32
  let v40 : BitVec 32 := Scalar.muli arg12 c128_i32
  let c0_i32_21 : BitVec 32 := 0#32
  let v41 : BitVec 32 := Scalar.addi v40 c0_i32_21
  let v42 : Index := Scalar.indexCast v41
  ![v42.toNat]

def k0_chk1 (v57 : IVec S16 32) : Prop :=
  (∀ a x, ((![v57] : Fin 1 → IVec S16 32) a x).toNat < S40000.size a)
theorem k0_idx1_inb : ∀ (v57 : IVec S16 32) (k0_hw1 : k0_chk1 v57), ∀ a x, ((![v57] : Fin 1 → IVec S16 32) a x).toNat < S40000.size a := fun v57 k0_hw1 => k0_hw1

def k0_chk2 (v60 : IVec S16 32) : Prop :=
  (∀ a x, ((![v60] : Fin 1 → IVec S16 32) a x).toNat < S40000.size a)
theorem k0_idx2_inb : ∀ (v60 : IVec S16 32) (k0_hw2 : k0_chk2 v60), ∀ a x, ((![v60] : Fin 1 → IVec S16 32) a x).toNat < S40000.size a := fun v60 k0_hw2 => k0_hw2

def k0_chk3 (v63 : IVec S16 32) : Prop :=
  (∀ a x, ((![v63] : Fin 1 → IVec S16 32) a x).toNat < S40000.size a)
theorem k0_idx3_inb : ∀ (v63 : IVec S16 32) (k0_hw3 : k0_chk3 v63), ∀ a x, ((![v63] : Fin 1 → IVec S16 32) a x).toNat < S40000.size a := fun v63 k0_hw3 => k0_hw3

def k0_chk4 (v66 : IVec S16 32) : Prop :=
  (∀ a x, ((![v66] : Fin 1 → IVec S16 32) a x).toNat < S40000.size a)
theorem k0_idx4_inb : ∀ (v66 : IVec S16 32) (k0_hw4 : k0_chk4 v66), ∀ a x, ((![v66] : Fin 1 → IVec S16 32) a x).toNat < S40000.size a := fun v66 k0_hw4 => k0_hw4

def k0_chk5 (v69 : IVec S16 32) : Prop :=
  (∀ a x, ((![v69] : Fin 1 → IVec S16 32) a x).toNat < S40000.size a)
theorem k0_idx5_inb : ∀ (v69 : IVec S16 32) (k0_hw5 : k0_chk5 v69), ∀ a x, ((![v69] : Fin 1 → IVec S16 32) a x).toNat < S40000.size a := fun v69 k0_hw5 => k0_hw5

def k0_chk6 (v72 : IVec S16 32) : Prop :=
  (∀ a x, ((![v72] : Fin 1 → IVec S16 32) a x).toNat < S40000.size a)
theorem k0_idx6_inb : ∀ (v72 : IVec S16 32) (k0_hw6 : k0_chk6 v72), ∀ a x, ((![v72] : Fin 1 → IVec S16 32) a x).toNat < S40000.size a := fun v72 k0_hw6 => k0_hw6

def k0_chk7 (v75 : IVec S16 32) : Prop :=
  (∀ a x, ((![v75] : Fin 1 → IVec S16 32) a x).toNat < S40000.size a)
theorem k0_idx7_inb : ∀ (v75 : IVec S16 32) (k0_hw7 : k0_chk7 v75), ∀ a x, ((![v75] : Fin 1 → IVec S16 32) a x).toNat < S40000.size a := fun v75 k0_hw7 => k0_hw7

def k0_chk8 (v78 : IVec S16 32) : Prop :=
  (∀ a x, ((![v78] : Fin 1 → IVec S16 32) a x).toNat < S40000.size a)
theorem k0_idx8_inb : ∀ (v78 : IVec S16 32) (k0_hw8 : k0_chk8 v78), ∀ a x, ((![v78] : Fin 1 → IVec S16 32) a x).toNat < S40000.size a := fun v78 k0_hw8 => k0_hw8
def k0_off4 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v80 : Index := Scalar.indexCast arg12
  let c0_i32_27 : BitVec 32 := 0#32
  let v81 : Index := Scalar.indexCast c0_i32_27
  let c0_28 : Index := 0#32
  ![v80.toNat, 0, 0]
def k0_off5 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v83 : Index := Scalar.indexCast arg12
  let c1_i32_29 : BitVec 32 := 1#32
  let v84 : Index := Scalar.indexCast c1_i32_29
  let c0_30 : Index := 0#32
  ![v83.toNat, 1, 0]
def k0_off6 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v86 : Index := Scalar.indexCast arg12
  let c2_i32_31 : BitVec 32 := 2#32
  let v87 : Index := Scalar.indexCast c2_i32_31
  let c0_32 : Index := 0#32
  ![v86.toNat, 2, 0]
def k0_off7 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v89 : Index := Scalar.indexCast arg12
  let c3_i32_33 : BitVec 32 := 3#32
  let v90 : Index := Scalar.indexCast c3_i32_33
  let c0_34 : Index := 0#32
  ![v89.toNat, 3, 0]
def k0_off8 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v92 : Index := Scalar.indexCast arg12
  let c4_i32_35 : BitVec 32 := 4#32
  let v93 : Index := Scalar.indexCast c4_i32_35
  let c0_36 : Index := 0#32
  ![v92.toNat, 4, 0]
def k0_off9 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v95 : Index := Scalar.indexCast arg12
  let c5_i32_37 : BitVec 32 := 5#32
  let v96 : Index := Scalar.indexCast c5_i32_37
  let c0_38 : Index := 0#32
  ![v95.toNat, 5, 0]
def k0_off10 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v98 : Index := Scalar.indexCast arg12
  let c6_i32_39 : BitVec 32 := 6#32
  let v99 : Index := Scalar.indexCast c6_i32_39
  let c0_40 : Index := 0#32
  ![v98.toNat, 6, 0]
def k0_off11 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v101 : Index := Scalar.indexCast arg12
  let c7_i32_41 : BitVec 32 := 7#32
  let v102 : Index := Scalar.indexCast c7_i32_41
  let c0_42 : Index := 0#32
  ![v101.toNat, 7, 0]
def k0_off12 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_43 : BitVec 32 := 128#32
  let v104 : BitVec 32 := Scalar.muli arg12 c128_i32_43
  let c16_i32 : BitVec 32 := 16#32
  let v105 : BitVec 32 := Scalar.addi v104 c16_i32
  let v106 : Index := Scalar.indexCast v105
  ![v106.toNat]

def k0_chk9 (v121 : IVec S16 32) : Prop :=
  (∀ a x, ((![v121] : Fin 1 → IVec S16 32) a x).toNat < S40000.size a)
theorem k0_idx9_inb : ∀ (v121 : IVec S16 32) (k0_hw9 : k0_chk9 v121), ∀ a x, ((![v121] : Fin 1 → IVec S16 32) a x).toNat < S40000.size a := fun v121 k0_hw9 => k0_hw9

def k0_chk10 (v124 : IVec S16 32) : Prop :=
  (∀ a x, ((![v124] : Fin 1 → IVec S16 32) a x).toNat < S40000.size a)
theorem k0_idx10_inb : ∀ (v124 : IVec S16 32) (k0_hw10 : k0_chk10 v124), ∀ a x, ((![v124] : Fin 1 → IVec S16 32) a x).toNat < S40000.size a := fun v124 k0_hw10 => k0_hw10

def k0_chk11 (v127 : IVec S16 32) : Prop :=
  (∀ a x, ((![v127] : Fin 1 → IVec S16 32) a x).toNat < S40000.size a)
theorem k0_idx11_inb : ∀ (v127 : IVec S16 32) (k0_hw11 : k0_chk11 v127), ∀ a x, ((![v127] : Fin 1 → IVec S16 32) a x).toNat < S40000.size a := fun v127 k0_hw11 => k0_hw11

def k0_chk12 (v130 : IVec S16 32) : Prop :=
  (∀ a x, ((![v130] : Fin 1 → IVec S16 32) a x).toNat < S40000.size a)
theorem k0_idx12_inb : ∀ (v130 : IVec S16 32) (k0_hw12 : k0_chk12 v130), ∀ a x, ((![v130] : Fin 1 → IVec S16 32) a x).toNat < S40000.size a := fun v130 k0_hw12 => k0_hw12

def k0_chk13 (v133 : IVec S16 32) : Prop :=
  (∀ a x, ((![v133] : Fin 1 → IVec S16 32) a x).toNat < S40000.size a)
theorem k0_idx13_inb : ∀ (v133 : IVec S16 32) (k0_hw13 : k0_chk13 v133), ∀ a x, ((![v133] : Fin 1 → IVec S16 32) a x).toNat < S40000.size a := fun v133 k0_hw13 => k0_hw13

def k0_chk14 (v136 : IVec S16 32) : Prop :=
  (∀ a x, ((![v136] : Fin 1 → IVec S16 32) a x).toNat < S40000.size a)
theorem k0_idx14_inb : ∀ (v136 : IVec S16 32) (k0_hw14 : k0_chk14 v136), ∀ a x, ((![v136] : Fin 1 → IVec S16 32) a x).toNat < S40000.size a := fun v136 k0_hw14 => k0_hw14

def k0_chk15 (v139 : IVec S16 32) : Prop :=
  (∀ a x, ((![v139] : Fin 1 → IVec S16 32) a x).toNat < S40000.size a)
theorem k0_idx15_inb : ∀ (v139 : IVec S16 32) (k0_hw15 : k0_chk15 v139), ∀ a x, ((![v139] : Fin 1 → IVec S16 32) a x).toNat < S40000.size a := fun v139 k0_hw15 => k0_hw15

def k0_chk16 (v142 : IVec S16 32) : Prop :=
  (∀ a x, ((![v142] : Fin 1 → IVec S16 32) a x).toNat < S40000.size a)
theorem k0_idx16_inb : ∀ (v142 : IVec S16 32) (k0_hw16 : k0_chk16 v142), ∀ a x, ((![v142] : Fin 1 → IVec S16 32) a x).toNat < S40000.size a := fun v142 k0_hw16 => k0_hw16
def k0_off13 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v144 : Index := Scalar.indexCast arg12
  let c0_i32_55 : BitVec 32 := 0#32
  let v145 : Index := Scalar.indexCast c0_i32_55
  let c16_56 : Index := 16#32
  ![v144.toNat, 0, 16]
def k0_off14 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v147 : Index := Scalar.indexCast arg12
  let c1_i32_57 : BitVec 32 := 1#32
  let v148 : Index := Scalar.indexCast c1_i32_57
  let c16_58 : Index := 16#32
  ![v147.toNat, 1, 16]
def k0_off15 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v150 : Index := Scalar.indexCast arg12
  let c2_i32_59 : BitVec 32 := 2#32
  let v151 : Index := Scalar.indexCast c2_i32_59
  let c16_60 : Index := 16#32
  ![v150.toNat, 2, 16]
def k0_off16 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v153 : Index := Scalar.indexCast arg12
  let c3_i32_61 : BitVec 32 := 3#32
  let v154 : Index := Scalar.indexCast c3_i32_61
  let c16_62 : Index := 16#32
  ![v153.toNat, 3, 16]
def k0_off17 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v156 : Index := Scalar.indexCast arg12
  let c4_i32_63 : BitVec 32 := 4#32
  let v157 : Index := Scalar.indexCast c4_i32_63
  let c16_64 : Index := 16#32
  ![v156.toNat, 4, 16]
def k0_off18 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v159 : Index := Scalar.indexCast arg12
  let c5_i32_65 : BitVec 32 := 5#32
  let v160 : Index := Scalar.indexCast c5_i32_65
  let c16_66 : Index := 16#32
  ![v159.toNat, 5, 16]
def k0_off19 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v162 : Index := Scalar.indexCast arg12
  let c6_i32_67 : BitVec 32 := 6#32
  let v163 : Index := Scalar.indexCast c6_i32_67
  let c16_68 : Index := 16#32
  ![v162.toNat, 6, 16]
def k0_off20 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v165 : Index := Scalar.indexCast arg12
  let c7_i32_69 : BitVec 32 := 7#32
  let v166 : Index := Scalar.indexCast c7_i32_69
  let c16_70 : Index := 16#32
  ![v165.toNat, 7, 16]
def k0_off21 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_71 : BitVec 32 := 128#32
  let v168 : BitVec 32 := Scalar.muli arg12 c128_i32_71
  let c32_i32_72 : BitVec 32 := 32#32
  let v169 : BitVec 32 := Scalar.addi v168 c32_i32_72
  let v170 : Index := Scalar.indexCast v169
  ![v170.toNat]

def k0_chk17 (v185 : IVec S16 32) : Prop :=
  (∀ a x, ((![v185] : Fin 1 → IVec S16 32) a x).toNat < S40000.size a)
theorem k0_idx17_inb : ∀ (v185 : IVec S16 32) (k0_hw17 : k0_chk17 v185), ∀ a x, ((![v185] : Fin 1 → IVec S16 32) a x).toNat < S40000.size a := fun v185 k0_hw17 => k0_hw17

def k0_chk18 (v188 : IVec S16 32) : Prop :=
  (∀ a x, ((![v188] : Fin 1 → IVec S16 32) a x).toNat < S40000.size a)
theorem k0_idx18_inb : ∀ (v188 : IVec S16 32) (k0_hw18 : k0_chk18 v188), ∀ a x, ((![v188] : Fin 1 → IVec S16 32) a x).toNat < S40000.size a := fun v188 k0_hw18 => k0_hw18

def k0_chk19 (v191 : IVec S16 32) : Prop :=
  (∀ a x, ((![v191] : Fin 1 → IVec S16 32) a x).toNat < S40000.size a)
theorem k0_idx19_inb : ∀ (v191 : IVec S16 32) (k0_hw19 : k0_chk19 v191), ∀ a x, ((![v191] : Fin 1 → IVec S16 32) a x).toNat < S40000.size a := fun v191 k0_hw19 => k0_hw19

def k0_chk20 (v194 : IVec S16 32) : Prop :=
  (∀ a x, ((![v194] : Fin 1 → IVec S16 32) a x).toNat < S40000.size a)
theorem k0_idx20_inb : ∀ (v194 : IVec S16 32) (k0_hw20 : k0_chk20 v194), ∀ a x, ((![v194] : Fin 1 → IVec S16 32) a x).toNat < S40000.size a := fun v194 k0_hw20 => k0_hw20

def k0_chk21 (v197 : IVec S16 32) : Prop :=
  (∀ a x, ((![v197] : Fin 1 → IVec S16 32) a x).toNat < S40000.size a)
theorem k0_idx21_inb : ∀ (v197 : IVec S16 32) (k0_hw21 : k0_chk21 v197), ∀ a x, ((![v197] : Fin 1 → IVec S16 32) a x).toNat < S40000.size a := fun v197 k0_hw21 => k0_hw21

def k0_chk22 (v200 : IVec S16 32) : Prop :=
  (∀ a x, ((![v200] : Fin 1 → IVec S16 32) a x).toNat < S40000.size a)
theorem k0_idx22_inb : ∀ (v200 : IVec S16 32) (k0_hw22 : k0_chk22 v200), ∀ a x, ((![v200] : Fin 1 → IVec S16 32) a x).toNat < S40000.size a := fun v200 k0_hw22 => k0_hw22

def k0_chk23 (v203 : IVec S16 32) : Prop :=
  (∀ a x, ((![v203] : Fin 1 → IVec S16 32) a x).toNat < S40000.size a)
theorem k0_idx23_inb : ∀ (v203 : IVec S16 32) (k0_hw23 : k0_chk23 v203), ∀ a x, ((![v203] : Fin 1 → IVec S16 32) a x).toNat < S40000.size a := fun v203 k0_hw23 => k0_hw23

def k0_chk24 (v206 : IVec S16 32) : Prop :=
  (∀ a x, ((![v206] : Fin 1 → IVec S16 32) a x).toNat < S40000.size a)
theorem k0_idx24_inb : ∀ (v206 : IVec S16 32) (k0_hw24 : k0_chk24 v206), ∀ a x, ((![v206] : Fin 1 → IVec S16 32) a x).toNat < S40000.size a := fun v206 k0_hw24 => k0_hw24
def k0_off22 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v208 : Index := Scalar.indexCast arg12
  let c0_i32_84 : BitVec 32 := 0#32
  let v209 : Index := Scalar.indexCast c0_i32_84
  let c32_85 : Index := 32#32
  ![v208.toNat, 0, 32]
def k0_off23 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v211 : Index := Scalar.indexCast arg12
  let c1_i32_86 : BitVec 32 := 1#32
  let v212 : Index := Scalar.indexCast c1_i32_86
  let c32_87 : Index := 32#32
  ![v211.toNat, 1, 32]
def k0_off24 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v214 : Index := Scalar.indexCast arg12
  let c2_i32_88 : BitVec 32 := 2#32
  let v215 : Index := Scalar.indexCast c2_i32_88
  let c32_89 : Index := 32#32
  ![v214.toNat, 2, 32]
def k0_off25 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v217 : Index := Scalar.indexCast arg12
  let c3_i32_90 : BitVec 32 := 3#32
  let v218 : Index := Scalar.indexCast c3_i32_90
  let c32_91 : Index := 32#32
  ![v217.toNat, 3, 32]
def k0_off26 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v220 : Index := Scalar.indexCast arg12
  let c4_i32_92 : BitVec 32 := 4#32
  let v221 : Index := Scalar.indexCast c4_i32_92
  let c32_93 : Index := 32#32
  ![v220.toNat, 4, 32]
def k0_off27 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v223 : Index := Scalar.indexCast arg12
  let c5_i32_94 : BitVec 32 := 5#32
  let v224 : Index := Scalar.indexCast c5_i32_94
  let c32_95 : Index := 32#32
  ![v223.toNat, 5, 32]
def k0_off28 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v226 : Index := Scalar.indexCast arg12
  let c6_i32_96 : BitVec 32 := 6#32
  let v227 : Index := Scalar.indexCast c6_i32_96
  let c32_97 : Index := 32#32
  ![v226.toNat, 6, 32]
def k0_off29 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v229 : Index := Scalar.indexCast arg12
  let c7_i32_98 : BitVec 32 := 7#32
  let v230 : Index := Scalar.indexCast c7_i32_98
  let c32_99 : Index := 32#32
  ![v229.toNat, 7, 32]
def k0_off30 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_100 : BitVec 32 := 128#32
  let v232 : BitVec 32 := Scalar.muli arg12 c128_i32_100
  let c48_i32 : BitVec 32 := 48#32
  let v233 : BitVec 32 := Scalar.addi v232 c48_i32
  let v234 : Index := Scalar.indexCast v233
  ![v234.toNat]

def k0_chk25 (v249 : IVec S16 32) : Prop :=
  (∀ a x, ((![v249] : Fin 1 → IVec S16 32) a x).toNat < S40000.size a)
theorem k0_idx25_inb : ∀ (v249 : IVec S16 32) (k0_hw25 : k0_chk25 v249), ∀ a x, ((![v249] : Fin 1 → IVec S16 32) a x).toNat < S40000.size a := fun v249 k0_hw25 => k0_hw25

def k0_chk26 (v252 : IVec S16 32) : Prop :=
  (∀ a x, ((![v252] : Fin 1 → IVec S16 32) a x).toNat < S40000.size a)
theorem k0_idx26_inb : ∀ (v252 : IVec S16 32) (k0_hw26 : k0_chk26 v252), ∀ a x, ((![v252] : Fin 1 → IVec S16 32) a x).toNat < S40000.size a := fun v252 k0_hw26 => k0_hw26

def k0_chk27 (v255 : IVec S16 32) : Prop :=
  (∀ a x, ((![v255] : Fin 1 → IVec S16 32) a x).toNat < S40000.size a)
theorem k0_idx27_inb : ∀ (v255 : IVec S16 32) (k0_hw27 : k0_chk27 v255), ∀ a x, ((![v255] : Fin 1 → IVec S16 32) a x).toNat < S40000.size a := fun v255 k0_hw27 => k0_hw27

def k0_chk28 (v258 : IVec S16 32) : Prop :=
  (∀ a x, ((![v258] : Fin 1 → IVec S16 32) a x).toNat < S40000.size a)
theorem k0_idx28_inb : ∀ (v258 : IVec S16 32) (k0_hw28 : k0_chk28 v258), ∀ a x, ((![v258] : Fin 1 → IVec S16 32) a x).toNat < S40000.size a := fun v258 k0_hw28 => k0_hw28

def k0_chk29 (v261 : IVec S16 32) : Prop :=
  (∀ a x, ((![v261] : Fin 1 → IVec S16 32) a x).toNat < S40000.size a)
theorem k0_idx29_inb : ∀ (v261 : IVec S16 32) (k0_hw29 : k0_chk29 v261), ∀ a x, ((![v261] : Fin 1 → IVec S16 32) a x).toNat < S40000.size a := fun v261 k0_hw29 => k0_hw29

def k0_chk30 (v264 : IVec S16 32) : Prop :=
  (∀ a x, ((![v264] : Fin 1 → IVec S16 32) a x).toNat < S40000.size a)
theorem k0_idx30_inb : ∀ (v264 : IVec S16 32) (k0_hw30 : k0_chk30 v264), ∀ a x, ((![v264] : Fin 1 → IVec S16 32) a x).toNat < S40000.size a := fun v264 k0_hw30 => k0_hw30

def k0_chk31 (v267 : IVec S16 32) : Prop :=
  (∀ a x, ((![v267] : Fin 1 → IVec S16 32) a x).toNat < S40000.size a)
theorem k0_idx31_inb : ∀ (v267 : IVec S16 32) (k0_hw31 : k0_chk31 v267), ∀ a x, ((![v267] : Fin 1 → IVec S16 32) a x).toNat < S40000.size a := fun v267 k0_hw31 => k0_hw31

def k0_chk32 (v270 : IVec S16 32) : Prop :=
  (∀ a x, ((![v270] : Fin 1 → IVec S16 32) a x).toNat < S40000.size a)
theorem k0_idx32_inb : ∀ (v270 : IVec S16 32) (k0_hw32 : k0_chk32 v270), ∀ a x, ((![v270] : Fin 1 → IVec S16 32) a x).toNat < S40000.size a := fun v270 k0_hw32 => k0_hw32
def k0_off31 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v272 : Index := Scalar.indexCast arg12
  let c0_i32_112 : BitVec 32 := 0#32
  let v273 : Index := Scalar.indexCast c0_i32_112
  let c48 : Index := 48#32
  ![v272.toNat, 0, 48]
def k0_off32 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v275 : Index := Scalar.indexCast arg12
  let c1_i32_113 : BitVec 32 := 1#32
  let v276 : Index := Scalar.indexCast c1_i32_113
  let c48_114 : Index := 48#32
  ![v275.toNat, 1, 48]
def k0_off33 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v278 : Index := Scalar.indexCast arg12
  let c2_i32_115 : BitVec 32 := 2#32
  let v279 : Index := Scalar.indexCast c2_i32_115
  let c48_116 : Index := 48#32
  ![v278.toNat, 2, 48]
def k0_off34 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v281 : Index := Scalar.indexCast arg12
  let c3_i32_117 : BitVec 32 := 3#32
  let v282 : Index := Scalar.indexCast c3_i32_117
  let c48_118 : Index := 48#32
  ![v281.toNat, 3, 48]
def k0_off35 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v284 : Index := Scalar.indexCast arg12
  let c4_i32_119 : BitVec 32 := 4#32
  let v285 : Index := Scalar.indexCast c4_i32_119
  let c48_120 : Index := 48#32
  ![v284.toNat, 4, 48]
def k0_off36 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v287 : Index := Scalar.indexCast arg12
  let c5_i32_121 : BitVec 32 := 5#32
  let v288 : Index := Scalar.indexCast c5_i32_121
  let c48_122 : Index := 48#32
  ![v287.toNat, 5, 48]
def k0_off37 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v290 : Index := Scalar.indexCast arg12
  let c6_i32_123 : BitVec 32 := 6#32
  let v291 : Index := Scalar.indexCast c6_i32_123
  let c48_124 : Index := 48#32
  ![v290.toNat, 6, 48]
def k0_off38 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v293 : Index := Scalar.indexCast arg12
  let c7_i32_125 : BitVec 32 := 7#32
  let v294 : Index := Scalar.indexCast c7_i32_125
  let c48_126 : Index := 48#32
  ![v293.toNat, 7, 48]
def k0_off39 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_127 : BitVec 32 := 128#32
  let v296 : BitVec 32 := Scalar.muli arg12 c128_i32_127
  let c64_i32 : BitVec 32 := 64#32
  let v297 : BitVec 32 := Scalar.addi v296 c64_i32
  let v298 : Index := Scalar.indexCast v297
  ![v298.toNat]

def k0_chk33 (v313 : IVec S16 32) : Prop :=
  (∀ a x, ((![v313] : Fin 1 → IVec S16 32) a x).toNat < S40000.size a)
theorem k0_idx33_inb : ∀ (v313 : IVec S16 32) (k0_hw33 : k0_chk33 v313), ∀ a x, ((![v313] : Fin 1 → IVec S16 32) a x).toNat < S40000.size a := fun v313 k0_hw33 => k0_hw33

def k0_chk34 (v316 : IVec S16 32) : Prop :=
  (∀ a x, ((![v316] : Fin 1 → IVec S16 32) a x).toNat < S40000.size a)
theorem k0_idx34_inb : ∀ (v316 : IVec S16 32) (k0_hw34 : k0_chk34 v316), ∀ a x, ((![v316] : Fin 1 → IVec S16 32) a x).toNat < S40000.size a := fun v316 k0_hw34 => k0_hw34

def k0_chk35 (v319 : IVec S16 32) : Prop :=
  (∀ a x, ((![v319] : Fin 1 → IVec S16 32) a x).toNat < S40000.size a)
theorem k0_idx35_inb : ∀ (v319 : IVec S16 32) (k0_hw35 : k0_chk35 v319), ∀ a x, ((![v319] : Fin 1 → IVec S16 32) a x).toNat < S40000.size a := fun v319 k0_hw35 => k0_hw35

def k0_chk36 (v322 : IVec S16 32) : Prop :=
  (∀ a x, ((![v322] : Fin 1 → IVec S16 32) a x).toNat < S40000.size a)
theorem k0_idx36_inb : ∀ (v322 : IVec S16 32) (k0_hw36 : k0_chk36 v322), ∀ a x, ((![v322] : Fin 1 → IVec S16 32) a x).toNat < S40000.size a := fun v322 k0_hw36 => k0_hw36

def k0_chk37 (v325 : IVec S16 32) : Prop :=
  (∀ a x, ((![v325] : Fin 1 → IVec S16 32) a x).toNat < S40000.size a)
theorem k0_idx37_inb : ∀ (v325 : IVec S16 32) (k0_hw37 : k0_chk37 v325), ∀ a x, ((![v325] : Fin 1 → IVec S16 32) a x).toNat < S40000.size a := fun v325 k0_hw37 => k0_hw37

def k0_chk38 (v328 : IVec S16 32) : Prop :=
  (∀ a x, ((![v328] : Fin 1 → IVec S16 32) a x).toNat < S40000.size a)
theorem k0_idx38_inb : ∀ (v328 : IVec S16 32) (k0_hw38 : k0_chk38 v328), ∀ a x, ((![v328] : Fin 1 → IVec S16 32) a x).toNat < S40000.size a := fun v328 k0_hw38 => k0_hw38

def k0_chk39 (v331 : IVec S16 32) : Prop :=
  (∀ a x, ((![v331] : Fin 1 → IVec S16 32) a x).toNat < S40000.size a)
theorem k0_idx39_inb : ∀ (v331 : IVec S16 32) (k0_hw39 : k0_chk39 v331), ∀ a x, ((![v331] : Fin 1 → IVec S16 32) a x).toNat < S40000.size a := fun v331 k0_hw39 => k0_hw39

def k0_chk40 (v334 : IVec S16 32) : Prop :=
  (∀ a x, ((![v334] : Fin 1 → IVec S16 32) a x).toNat < S40000.size a)
theorem k0_idx40_inb : ∀ (v334 : IVec S16 32) (k0_hw40 : k0_chk40 v334), ∀ a x, ((![v334] : Fin 1 → IVec S16 32) a x).toNat < S40000.size a := fun v334 k0_hw40 => k0_hw40
def k0_off40 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v336 : Index := Scalar.indexCast arg12
  let c0_i32_139 : BitVec 32 := 0#32
  let v337 : Index := Scalar.indexCast c0_i32_139
  let c64 : Index := 64#32
  ![v336.toNat, 0, 64]
def k0_off41 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v339 : Index := Scalar.indexCast arg12
  let c1_i32_140 : BitVec 32 := 1#32
  let v340 : Index := Scalar.indexCast c1_i32_140
  let c64_141 : Index := 64#32
  ![v339.toNat, 1, 64]
def k0_off42 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v342 : Index := Scalar.indexCast arg12
  let c2_i32_142 : BitVec 32 := 2#32
  let v343 : Index := Scalar.indexCast c2_i32_142
  let c64_143 : Index := 64#32
  ![v342.toNat, 2, 64]
def k0_off43 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v345 : Index := Scalar.indexCast arg12
  let c3_i32_144 : BitVec 32 := 3#32
  let v346 : Index := Scalar.indexCast c3_i32_144
  let c64_145 : Index := 64#32
  ![v345.toNat, 3, 64]
def k0_off44 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v348 : Index := Scalar.indexCast arg12
  let c4_i32_146 : BitVec 32 := 4#32
  let v349 : Index := Scalar.indexCast c4_i32_146
  let c64_147 : Index := 64#32
  ![v348.toNat, 4, 64]
def k0_off45 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v351 : Index := Scalar.indexCast arg12
  let c5_i32_148 : BitVec 32 := 5#32
  let v352 : Index := Scalar.indexCast c5_i32_148
  let c64_149 : Index := 64#32
  ![v351.toNat, 5, 64]
def k0_off46 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v354 : Index := Scalar.indexCast arg12
  let c6_i32_150 : BitVec 32 := 6#32
  let v355 : Index := Scalar.indexCast c6_i32_150
  let c64_151 : Index := 64#32
  ![v354.toNat, 6, 64]
def k0_off47 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v357 : Index := Scalar.indexCast arg12
  let c7_i32_152 : BitVec 32 := 7#32
  let v358 : Index := Scalar.indexCast c7_i32_152
  let c64_153 : Index := 64#32
  ![v357.toNat, 7, 64]
def k0_off48 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_154 : BitVec 32 := 128#32
  let v360 : BitVec 32 := Scalar.muli arg12 c128_i32_154
  let c80_i32 : BitVec 32 := 80#32
  let v361 : BitVec 32 := Scalar.addi v360 c80_i32
  let v362 : Index := Scalar.indexCast v361
  ![v362.toNat]

def k0_chk41 (v377 : IVec S16 32) : Prop :=
  (∀ a x, ((![v377] : Fin 1 → IVec S16 32) a x).toNat < S40000.size a)
theorem k0_idx41_inb : ∀ (v377 : IVec S16 32) (k0_hw41 : k0_chk41 v377), ∀ a x, ((![v377] : Fin 1 → IVec S16 32) a x).toNat < S40000.size a := fun v377 k0_hw41 => k0_hw41

def k0_chk42 (v380 : IVec S16 32) : Prop :=
  (∀ a x, ((![v380] : Fin 1 → IVec S16 32) a x).toNat < S40000.size a)
theorem k0_idx42_inb : ∀ (v380 : IVec S16 32) (k0_hw42 : k0_chk42 v380), ∀ a x, ((![v380] : Fin 1 → IVec S16 32) a x).toNat < S40000.size a := fun v380 k0_hw42 => k0_hw42

def k0_chk43 (v383 : IVec S16 32) : Prop :=
  (∀ a x, ((![v383] : Fin 1 → IVec S16 32) a x).toNat < S40000.size a)
theorem k0_idx43_inb : ∀ (v383 : IVec S16 32) (k0_hw43 : k0_chk43 v383), ∀ a x, ((![v383] : Fin 1 → IVec S16 32) a x).toNat < S40000.size a := fun v383 k0_hw43 => k0_hw43

def k0_chk44 (v386 : IVec S16 32) : Prop :=
  (∀ a x, ((![v386] : Fin 1 → IVec S16 32) a x).toNat < S40000.size a)
theorem k0_idx44_inb : ∀ (v386 : IVec S16 32) (k0_hw44 : k0_chk44 v386), ∀ a x, ((![v386] : Fin 1 → IVec S16 32) a x).toNat < S40000.size a := fun v386 k0_hw44 => k0_hw44

def k0_chk45 (v389 : IVec S16 32) : Prop :=
  (∀ a x, ((![v389] : Fin 1 → IVec S16 32) a x).toNat < S40000.size a)
theorem k0_idx45_inb : ∀ (v389 : IVec S16 32) (k0_hw45 : k0_chk45 v389), ∀ a x, ((![v389] : Fin 1 → IVec S16 32) a x).toNat < S40000.size a := fun v389 k0_hw45 => k0_hw45

def k0_chk46 (v392 : IVec S16 32) : Prop :=
  (∀ a x, ((![v392] : Fin 1 → IVec S16 32) a x).toNat < S40000.size a)
theorem k0_idx46_inb : ∀ (v392 : IVec S16 32) (k0_hw46 : k0_chk46 v392), ∀ a x, ((![v392] : Fin 1 → IVec S16 32) a x).toNat < S40000.size a := fun v392 k0_hw46 => k0_hw46

def k0_chk47 (v395 : IVec S16 32) : Prop :=
  (∀ a x, ((![v395] : Fin 1 → IVec S16 32) a x).toNat < S40000.size a)
theorem k0_idx47_inb : ∀ (v395 : IVec S16 32) (k0_hw47 : k0_chk47 v395), ∀ a x, ((![v395] : Fin 1 → IVec S16 32) a x).toNat < S40000.size a := fun v395 k0_hw47 => k0_hw47

def k0_chk48 (v398 : IVec S16 32) : Prop :=
  (∀ a x, ((![v398] : Fin 1 → IVec S16 32) a x).toNat < S40000.size a)
theorem k0_idx48_inb : ∀ (v398 : IVec S16 32) (k0_hw48 : k0_chk48 v398), ∀ a x, ((![v398] : Fin 1 → IVec S16 32) a x).toNat < S40000.size a := fun v398 k0_hw48 => k0_hw48
def k0_off49 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v400 : Index := Scalar.indexCast arg12
  let c0_i32_166 : BitVec 32 := 0#32
  let v401 : Index := Scalar.indexCast c0_i32_166
  let c80 : Index := 80#32
  ![v400.toNat, 0, 80]
def k0_off50 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v403 : Index := Scalar.indexCast arg12
  let c1_i32_167 : BitVec 32 := 1#32
  let v404 : Index := Scalar.indexCast c1_i32_167
  let c80_168 : Index := 80#32
  ![v403.toNat, 1, 80]
def k0_off51 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v406 : Index := Scalar.indexCast arg12
  let c2_i32_169 : BitVec 32 := 2#32
  let v407 : Index := Scalar.indexCast c2_i32_169
  let c80_170 : Index := 80#32
  ![v406.toNat, 2, 80]
def k0_off52 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v409 : Index := Scalar.indexCast arg12
  let c3_i32_171 : BitVec 32 := 3#32
  let v410 : Index := Scalar.indexCast c3_i32_171
  let c80_172 : Index := 80#32
  ![v409.toNat, 3, 80]
def k0_off53 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v412 : Index := Scalar.indexCast arg12
  let c4_i32_173 : BitVec 32 := 4#32
  let v413 : Index := Scalar.indexCast c4_i32_173
  let c80_174 : Index := 80#32
  ![v412.toNat, 4, 80]
def k0_off54 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v415 : Index := Scalar.indexCast arg12
  let c5_i32_175 : BitVec 32 := 5#32
  let v416 : Index := Scalar.indexCast c5_i32_175
  let c80_176 : Index := 80#32
  ![v415.toNat, 5, 80]
def k0_off55 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v418 : Index := Scalar.indexCast arg12
  let c6_i32_177 : BitVec 32 := 6#32
  let v419 : Index := Scalar.indexCast c6_i32_177
  let c80_178 : Index := 80#32
  ![v418.toNat, 6, 80]
def k0_off56 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v421 : Index := Scalar.indexCast arg12
  let c7_i32_179 : BitVec 32 := 7#32
  let v422 : Index := Scalar.indexCast c7_i32_179
  let c80_180 : Index := 80#32
  ![v421.toNat, 7, 80]
def k0_off57 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_181 : BitVec 32 := 128#32
  let v424 : BitVec 32 := Scalar.muli arg12 c128_i32_181
  let c96_i32 : BitVec 32 := 96#32
  let v425 : BitVec 32 := Scalar.addi v424 c96_i32
  let v426 : Index := Scalar.indexCast v425
  ![v426.toNat]

def k0_chk49 (v441 : IVec S16 32) : Prop :=
  (∀ a x, ((![v441] : Fin 1 → IVec S16 32) a x).toNat < S40000.size a)
theorem k0_idx49_inb : ∀ (v441 : IVec S16 32) (k0_hw49 : k0_chk49 v441), ∀ a x, ((![v441] : Fin 1 → IVec S16 32) a x).toNat < S40000.size a := fun v441 k0_hw49 => k0_hw49

def k0_chk50 (v444 : IVec S16 32) : Prop :=
  (∀ a x, ((![v444] : Fin 1 → IVec S16 32) a x).toNat < S40000.size a)
theorem k0_idx50_inb : ∀ (v444 : IVec S16 32) (k0_hw50 : k0_chk50 v444), ∀ a x, ((![v444] : Fin 1 → IVec S16 32) a x).toNat < S40000.size a := fun v444 k0_hw50 => k0_hw50

def k0_chk51 (v447 : IVec S16 32) : Prop :=
  (∀ a x, ((![v447] : Fin 1 → IVec S16 32) a x).toNat < S40000.size a)
theorem k0_idx51_inb : ∀ (v447 : IVec S16 32) (k0_hw51 : k0_chk51 v447), ∀ a x, ((![v447] : Fin 1 → IVec S16 32) a x).toNat < S40000.size a := fun v447 k0_hw51 => k0_hw51

def k0_chk52 (v450 : IVec S16 32) : Prop :=
  (∀ a x, ((![v450] : Fin 1 → IVec S16 32) a x).toNat < S40000.size a)
theorem k0_idx52_inb : ∀ (v450 : IVec S16 32) (k0_hw52 : k0_chk52 v450), ∀ a x, ((![v450] : Fin 1 → IVec S16 32) a x).toNat < S40000.size a := fun v450 k0_hw52 => k0_hw52

def k0_chk53 (v453 : IVec S16 32) : Prop :=
  (∀ a x, ((![v453] : Fin 1 → IVec S16 32) a x).toNat < S40000.size a)
theorem k0_idx53_inb : ∀ (v453 : IVec S16 32) (k0_hw53 : k0_chk53 v453), ∀ a x, ((![v453] : Fin 1 → IVec S16 32) a x).toNat < S40000.size a := fun v453 k0_hw53 => k0_hw53

def k0_chk54 (v456 : IVec S16 32) : Prop :=
  (∀ a x, ((![v456] : Fin 1 → IVec S16 32) a x).toNat < S40000.size a)
theorem k0_idx54_inb : ∀ (v456 : IVec S16 32) (k0_hw54 : k0_chk54 v456), ∀ a x, ((![v456] : Fin 1 → IVec S16 32) a x).toNat < S40000.size a := fun v456 k0_hw54 => k0_hw54

def k0_chk55 (v459 : IVec S16 32) : Prop :=
  (∀ a x, ((![v459] : Fin 1 → IVec S16 32) a x).toNat < S40000.size a)
theorem k0_idx55_inb : ∀ (v459 : IVec S16 32) (k0_hw55 : k0_chk55 v459), ∀ a x, ((![v459] : Fin 1 → IVec S16 32) a x).toNat < S40000.size a := fun v459 k0_hw55 => k0_hw55

def k0_chk56 (v462 : IVec S16 32) : Prop :=
  (∀ a x, ((![v462] : Fin 1 → IVec S16 32) a x).toNat < S40000.size a)
theorem k0_idx56_inb : ∀ (v462 : IVec S16 32) (k0_hw56 : k0_chk56 v462), ∀ a x, ((![v462] : Fin 1 → IVec S16 32) a x).toNat < S40000.size a := fun v462 k0_hw56 => k0_hw56
def k0_off58 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v464 : Index := Scalar.indexCast arg12
  let c0_i32_193 : BitVec 32 := 0#32
  let v465 : Index := Scalar.indexCast c0_i32_193
  let c96 : Index := 96#32
  ![v464.toNat, 0, 96]
def k0_off59 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v467 : Index := Scalar.indexCast arg12
  let c1_i32_194 : BitVec 32 := 1#32
  let v468 : Index := Scalar.indexCast c1_i32_194
  let c96_195 : Index := 96#32
  ![v467.toNat, 1, 96]
def k0_off60 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v470 : Index := Scalar.indexCast arg12
  let c2_i32_196 : BitVec 32 := 2#32
  let v471 : Index := Scalar.indexCast c2_i32_196
  let c96_197 : Index := 96#32
  ![v470.toNat, 2, 96]
def k0_off61 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v473 : Index := Scalar.indexCast arg12
  let c3_i32_198 : BitVec 32 := 3#32
  let v474 : Index := Scalar.indexCast c3_i32_198
  let c96_199 : Index := 96#32
  ![v473.toNat, 3, 96]
def k0_off62 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v476 : Index := Scalar.indexCast arg12
  let c4_i32_200 : BitVec 32 := 4#32
  let v477 : Index := Scalar.indexCast c4_i32_200
  let c96_201 : Index := 96#32
  ![v476.toNat, 4, 96]
def k0_off63 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v479 : Index := Scalar.indexCast arg12
  let c5_i32_202 : BitVec 32 := 5#32
  let v480 : Index := Scalar.indexCast c5_i32_202
  let c96_203 : Index := 96#32
  ![v479.toNat, 5, 96]
def k0_off64 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v482 : Index := Scalar.indexCast arg12
  let c6_i32_204 : BitVec 32 := 6#32
  let v483 : Index := Scalar.indexCast c6_i32_204
  let c96_205 : Index := 96#32
  ![v482.toNat, 6, 96]
def k0_off65 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v485 : Index := Scalar.indexCast arg12
  let c7_i32_206 : BitVec 32 := 7#32
  let v486 : Index := Scalar.indexCast c7_i32_206
  let c96_207 : Index := 96#32
  ![v485.toNat, 7, 96]
def k0_off66 (k0_t3 : Fin k0_t3_loop.trips) : Fin 1 → Nat :=
  let c0_i32_16 : BitVec 32 := 0#32
  let c1_i32_17 : BitVec 32 := 1#32
  let arg12 : BitVec 32 := Scf.iv c0_i32_16 c1_i32_17 k0_t3
  let c128_i32_208 : BitVec 32 := 128#32
  let v488 : BitVec 32 := Scalar.muli arg12 c128_i32_208
  let c112_i32 : BitVec 32 := 112#32
  let v489 : BitVec 32 := Scalar.addi v488 c112_i32
  let v490 : Index := Scalar.indexCast v489
  ![v490.toNat]

def k0_chk57 (v505 : IVec S16 32) : Prop :=
  (∀ a x, ((![v505] : Fin 1 → IVec S16 32) a x).toNat < S40000.size a)
theorem k0_idx57_inb : ∀ (v505 : IVec S16 32) (k0_hw57 : k0_chk57 v505), ∀ a x, ((![v505] : Fin 1 → IVec S16 32) a x).toNat < S40000.size a := fun v505 k0_hw57 => k0_hw57

def k0_chk58 (v508 : IVec S16 32) : Prop :=
  (∀ a x, ((![v508] : Fin 1 → IVec S16 32) a x).toNat < S40000.size a)
theorem k0_idx58_inb : ∀ (v508 : IVec S16 32) (k0_hw58 : k0_chk58 v508), ∀ a x, ((![v508] : Fin 1 → IVec S16 32) a x).toNat < S40000.size a := fun v508 k0_hw58 => k0_hw58

def k0_chk59 (v511 : IVec S16 32) : Prop :=
  (∀ a x, ((![v511] : Fin 1 → IVec S16 32) a x).toNat < S40000.size a)
theorem k0_idx59_inb : ∀ (v511 : IVec S16 32) (k0_hw59 : k0_chk59 v511), ∀ a x, ((![v511] : Fin 1 → IVec S16 32) a x).toNat < S40000.size a := fun v511 k0_hw59 => k0_hw59

def k0_chk60 (v514 : IVec S16 32) : Prop :=
  (∀ a x, ((![v514] : Fin 1 → IVec S16 32) a x).toNat < S40000.size a)
theorem k0_idx60_inb : ∀ (v514 : IVec S16 32) (k0_hw60 : k0_chk60 v514), ∀ a x, ((![v514] : Fin 1 → IVec S16 32) a x).toNat < S40000.size a := fun v514 k0_hw60 => k0_hw60

def k0_chk61 (v517 : IVec S16 32) : Prop :=
  (∀ a x, ((![v517] : Fin 1 → IVec S16 32) a x).toNat < S40000.size a)
theorem k0_idx61_inb : ∀ (v517 : IVec S16 32) (k0_hw61 : k0_chk61 v517), ∀ a x, ((![v517] : Fin 1 → IVec S16 32) a x).toNat < S40000.size a := fun v517 k0_hw61 => k0_hw61

def k0_chk62 (v520 : IVec S16 32) : Prop :=
  (∀ a x, ((![v520] : Fin 1 → IVec S16 32) a x).toNat < S40000.size a)
theorem k0_idx62_inb : ∀ (v520 : IVec S16 32) (k0_hw62 : k0_chk62 v520), ∀ a x, ((![v520] : Fin 1 → IVec S16 32) a x).toNat < S40000.size a := fun v520 k0_hw62 => k0_hw62

def k0_chk63 (v523 : IVec S16 32) : Prop :=
  (∀ a x, ((![v523] : Fin 1 → IVec S16 32) a x).toNat < S40000.size a)
theorem k0_idx63_inb : ∀ (v523 : IVec S16 32) (k0_hw63 : k0_chk63 v523), ∀ a x, ((![v523] : Fin 1 → IVec S16 32) a x).toNat < S40000.size a := fun v523 k0_hw63 => k0_hw63

def k0_chk64 (v526 : IVec S16 32) : Prop :=
  (∀ a x, ((![v526] : Fin 1 → IVec S16 32) a x).toNat < S40000.size a)
theorem k0_idx64_inb : ∀ (v526 : IVec S16 32) (k0_hw64 : k0_chk64 v526), ∀ a x, ((![v526] : Fin 1 → IVec S16 32) a x).toNat < S40000.size a := fun v526 k0_hw64 => k0_hw64
def k0_off67 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v528 : Index := Scalar.indexCast arg12
  let c0_i32_220 : BitVec 32 := 0#32
  let v529 : Index := Scalar.indexCast c0_i32_220
  let c112 : Index := 112#32
  ![v528.toNat, 0, 112]
def k0_off68 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v531 : Index := Scalar.indexCast arg12
  let c1_i32_221 : BitVec 32 := 1#32
  let v532 : Index := Scalar.indexCast c1_i32_221
  let c112_222 : Index := 112#32
  ![v531.toNat, 1, 112]
def k0_off69 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v534 : Index := Scalar.indexCast arg12
  let c2_i32_223 : BitVec 32 := 2#32
  let v535 : Index := Scalar.indexCast c2_i32_223
  let c112_224 : Index := 112#32
  ![v534.toNat, 2, 112]
def k0_off70 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v537 : Index := Scalar.indexCast arg12
  let c3_i32_225 : BitVec 32 := 3#32
  let v538 : Index := Scalar.indexCast c3_i32_225
  let c112_226 : Index := 112#32
  ![v537.toNat, 3, 112]
def k0_off71 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v540 : Index := Scalar.indexCast arg12
  let c4_i32_227 : BitVec 32 := 4#32
  let v541 : Index := Scalar.indexCast c4_i32_227
  let c112_228 : Index := 112#32
  ![v540.toNat, 4, 112]
def k0_off72 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v543 : Index := Scalar.indexCast arg12
  let c5_i32_229 : BitVec 32 := 5#32
  let v544 : Index := Scalar.indexCast c5_i32_229
  let c112_230 : Index := 112#32
  ![v543.toNat, 5, 112]
def k0_off73 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v546 : Index := Scalar.indexCast arg12
  let c6_i32_231 : BitVec 32 := 6#32
  let v547 : Index := Scalar.indexCast c6_i32_231
  let c112_232 : Index := 112#32
  ![v546.toNat, 6, 112]
def k0_off74 (k0_t3 : Fin k0_t3_loop.trips) : Fin 3 → Nat :=
  let c0_i32_16 : BitVec 32 := 0#32
  let c1_i32_17 : BitVec 32 := 1#32
  let arg12 : BitVec 32 := Scf.iv c0_i32_16 c1_i32_17 k0_t3
  let v549 : Index := Scalar.indexCast arg12
  let c7_i32_233 : BitVec 32 := 7#32
  let v550 : Index := Scalar.indexCast c7_i32_233
  let c112_234 : Index := 112#32
  ![v549.toNat, 7, 112]
def k0_off75 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32_12 : BitVec 32 := 1#32
  let arg10 : BitVec 32 := Scf.iv c0_i32_9 c1_i32_12 k0_t2
  let c32_i32_14 : BitVec 32 := 32#32
  let v34 : BitVec 32 := Scalar.muli arg10 c32_i32_14
  let v35 : BitVec 32 := Scalar.addi v1 v34
  let c25_i32_19 : BitVec 32 := 25#32
  let v39 : BitVec 32 := Scalar.muli v35 c25_i32_19
  let c0_i32_21_r3 : BitVec 32 := 0#32
  let c0_i32_22_r3 : BitVec 32 := 0#32
  ![v39.toNat, 0, 0]
@[reducible] def k0_t4_loop (i : grid0.Coords) : Scf.Loop 32 :=
  let c0_i32_9 : BitVec 32 := 0#32
  let c1999_i32 : BitVec 32 := 1999#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v8 : BitVec 32 := Scalar.subi c1999_i32 v1
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c32_i32 : BitVec 32 := 32#32
  let c0_i32_4 : BitVec 32 := 0#32
  let v15 : BitVec 1 := Scalar.cmpi .sgt c32_i32 c0_i32_4
  let v16 : BitVec 32 := Scalar.extui v15
  let c0_i32_5 : BitVec 32 := 0#32
  let v17 : BitVec 1 := Scalar.cmpi .slt c32_i32 c0_i32_5
  let v18 : BitVec 32 := Scalar.extui v17
  let v19 : BitVec 32 := Scalar.subi v16 v18
  let v20 : BitVec 1 := Scalar.cmpi .ne v14 v19
  let v21 : BitVec 32 := Scalar.remsi v8 c32_i32
  let c0_i32_6 : BitVec 32 := 0#32
  let v22 : BitVec 1 := Scalar.cmpi .ne v21 c0_i32_6
  let v23 : BitVec 1 := Scalar.andi v20 v22
  let v9 : BitVec 32 := Scalar.divsi v8 c32_i32
  let c1_i32_7 : BitVec 32 := 1#32
  let v24 : BitVec 32 := Scalar.subi v9 c1_i32_7
  let v25 : BitVec 32 := Scalar.select v23 v24 v9
  let c1_i32_8 : BitVec 32 := 1#32
  let v26 : BitVec 32 := Scalar.addi v25 c1_i32_8
  let v27 : BitVec 32 := Scalar.subi v26 c0_i32_9
  let c1_i32_11 : BitVec 32 := 1#32
  let v29 : BitVec 32 := Scalar.divsi v27 c1_i32_11
  let v30 : BitVec 32 := Scalar.muli v29 c1_i32_11
  let v31 : BitVec 32 := Scalar.addi c0_i32_9 v30
  let v28 : BitVec 32 := Scalar.addi c0_i32_9 v27
  let c1_i32_13 : BitVec 32 := 1#32
  ⟨v31, v28, c1_i32_13⟩
def k0_off76 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1999_i32 : BitVec 32 := 1999#32
  let v8 : BitVec 32 := Scalar.subi c1999_i32 v1
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c32_i32 : BitVec 32 := 32#32
  let c0_i32_4 : BitVec 32 := 0#32
  let v15 : BitVec 1 := Scalar.cmpi .sgt c32_i32 c0_i32_4
  let v16 : BitVec 32 := Scalar.extui v15
  let c0_i32_5 : BitVec 32 := 0#32
  let v17 : BitVec 1 := Scalar.cmpi .slt c32_i32 c0_i32_5
  let v18 : BitVec 32 := Scalar.extui v17
  let v19 : BitVec 32 := Scalar.subi v16 v18
  let v20 : BitVec 1 := Scalar.cmpi .ne v14 v19
  let v21 : BitVec 32 := Scalar.remsi v8 c32_i32
  let c0_i32_6 : BitVec 32 := 0#32
  let v22 : BitVec 1 := Scalar.cmpi .ne v21 c0_i32_6
  let v23 : BitVec 1 := Scalar.andi v20 v22
  let v9 : BitVec 32 := Scalar.divsi v8 c32_i32
  let c1_i32_7 : BitVec 32 := 1#32
  let v24 : BitVec 32 := Scalar.subi v9 c1_i32_7
  let v25 : BitVec 32 := Scalar.select v23 v24 v9
  let c1_i32_8 : BitVec 32 := 1#32
  let v26 : BitVec 32 := Scalar.addi v25 c1_i32_8
  let v27 : BitVec 32 := Scalar.subi v26 c0_i32_9
  let c1_i32_11 : BitVec 32 := 1#32
  let v29 : BitVec 32 := Scalar.divsi v27 c1_i32_11
  let v30 : BitVec 32 := Scalar.muli v29 c1_i32_11
  let v31 : BitVec 32 := Scalar.addi c0_i32_9 v30
  let c1_i32_13 : BitVec 32 := 1#32
  let arg10 : BitVec 32 := Scf.iv v31 c1_i32_13 k0_t4
  let c32_i32_14 : BitVec 32 := 32#32
  let v34 : BitVec 32 := Scalar.muli arg10 c32_i32_14
  let v35 : BitVec 32 := Scalar.addi v1 v34
  let c3200_i32 : BitVec 32 := 3200#32
  let v36 : BitVec 32 := Scalar.muli v35 c3200_i32
  ![v36.toNat]
@[reducible] def k0_t5_loop : Scf.Loop 32 :=
  let c0_i32_16 : BitVec 32 := 0#32
  let c25_i32 : BitVec 32 := 25#32
  let v37 : BitVec 32 := Scalar.addi c0_i32_16 c25_i32
  let c1_i32_17 : BitVec 32 := 1#32
  ⟨c0_i32_16, v37, c1_i32_17⟩
def k0_off77 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32 : BitVec 32 := 128#32
  let v40 : BitVec 32 := Scalar.muli arg12 c128_i32
  let c0_i32_21 : BitVec 32 := 0#32
  let v41 : BitVec 32 := Scalar.addi v40 c0_i32_21
  let v42 : Index := Scalar.indexCast v41
  ![v42.toNat]

def k0_chk65 (i : grid0.Coords) (k0_t4 : Fin (k0_t4_loop i).trips) (v57 : IVec S16 32) : Prop :=
  (∀ a x, ((![v57] : Fin 1 → IVec S16 32) a x).toNat < S40000.size a)
theorem k0_idx65_inb : ∀ (i : grid0.Coords) (k0_t4 : Fin (k0_t4_loop i).trips) (v57 : IVec S16 32) (k0_hw65 : k0_chk65 i k0_t4 v57), ∀ a x, ((![v57] : Fin 1 → IVec S16 32) a x).toNat < S40000.size a := fun i k0_t4 v57 k0_hw65 => k0_hw65

def k0_chk66 (i : grid0.Coords) (k0_t4 : Fin (k0_t4_loop i).trips) (v60 : IVec S16 32) : Prop :=
  (∀ a x, ((![v60] : Fin 1 → IVec S16 32) a x).toNat < S40000.size a)
theorem k0_idx66_inb : ∀ (i : grid0.Coords) (k0_t4 : Fin (k0_t4_loop i).trips) (v60 : IVec S16 32) (k0_hw66 : k0_chk66 i k0_t4 v60), ∀ a x, ((![v60] : Fin 1 → IVec S16 32) a x).toNat < S40000.size a := fun i k0_t4 v60 k0_hw66 => k0_hw66

def k0_chk67 (i : grid0.Coords) (k0_t4 : Fin (k0_t4_loop i).trips) (v63 : IVec S16 32) : Prop :=
  (∀ a x, ((![v63] : Fin 1 → IVec S16 32) a x).toNat < S40000.size a)
theorem k0_idx67_inb : ∀ (i : grid0.Coords) (k0_t4 : Fin (k0_t4_loop i).trips) (v63 : IVec S16 32) (k0_hw67 : k0_chk67 i k0_t4 v63), ∀ a x, ((![v63] : Fin 1 → IVec S16 32) a x).toNat < S40000.size a := fun i k0_t4 v63 k0_hw67 => k0_hw67

def k0_chk68 (i : grid0.Coords) (k0_t4 : Fin (k0_t4_loop i).trips) (v66 : IVec S16 32) : Prop :=
  (∀ a x, ((![v66] : Fin 1 → IVec S16 32) a x).toNat < S40000.size a)
theorem k0_idx68_inb : ∀ (i : grid0.Coords) (k0_t4 : Fin (k0_t4_loop i).trips) (v66 : IVec S16 32) (k0_hw68 : k0_chk68 i k0_t4 v66), ∀ a x, ((![v66] : Fin 1 → IVec S16 32) a x).toNat < S40000.size a := fun i k0_t4 v66 k0_hw68 => k0_hw68

def k0_chk69 (i : grid0.Coords) (k0_t4 : Fin (k0_t4_loop i).trips) (v69 : IVec S16 32) : Prop :=
  (∀ a x, ((![v69] : Fin 1 → IVec S16 32) a x).toNat < S40000.size a)
theorem k0_idx69_inb : ∀ (i : grid0.Coords) (k0_t4 : Fin (k0_t4_loop i).trips) (v69 : IVec S16 32) (k0_hw69 : k0_chk69 i k0_t4 v69), ∀ a x, ((![v69] : Fin 1 → IVec S16 32) a x).toNat < S40000.size a := fun i k0_t4 v69 k0_hw69 => k0_hw69

def k0_chk70 (i : grid0.Coords) (k0_t4 : Fin (k0_t4_loop i).trips) (v72 : IVec S16 32) : Prop :=
  (∀ a x, ((![v72] : Fin 1 → IVec S16 32) a x).toNat < S40000.size a)
theorem k0_idx70_inb : ∀ (i : grid0.Coords) (k0_t4 : Fin (k0_t4_loop i).trips) (v72 : IVec S16 32) (k0_hw70 : k0_chk70 i k0_t4 v72), ∀ a x, ((![v72] : Fin 1 → IVec S16 32) a x).toNat < S40000.size a := fun i k0_t4 v72 k0_hw70 => k0_hw70

def k0_chk71 (i : grid0.Coords) (k0_t4 : Fin (k0_t4_loop i).trips) (v75 : IVec S16 32) : Prop :=
  (∀ a x, ((![v75] : Fin 1 → IVec S16 32) a x).toNat < S40000.size a)
theorem k0_idx71_inb : ∀ (i : grid0.Coords) (k0_t4 : Fin (k0_t4_loop i).trips) (v75 : IVec S16 32) (k0_hw71 : k0_chk71 i k0_t4 v75), ∀ a x, ((![v75] : Fin 1 → IVec S16 32) a x).toNat < S40000.size a := fun i k0_t4 v75 k0_hw71 => k0_hw71

def k0_chk72 (i : grid0.Coords) (k0_t4 : Fin (k0_t4_loop i).trips) (v78 : IVec S16 32) : Prop :=
  (∀ a x, ((![v78] : Fin 1 → IVec S16 32) a x).toNat < S40000.size a)
theorem k0_idx72_inb : ∀ (i : grid0.Coords) (k0_t4 : Fin (k0_t4_loop i).trips) (v78 : IVec S16 32) (k0_hw72 : k0_chk72 i k0_t4 v78), ∀ a x, ((![v78] : Fin 1 → IVec S16 32) a x).toNat < S40000.size a := fun i k0_t4 v78 k0_hw72 => k0_hw72
def k0_off78 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v80 : Index := Scalar.indexCast arg12
  let c0_i32_27 : BitVec 32 := 0#32
  let v81 : Index := Scalar.indexCast c0_i32_27
  let c0_28 : Index := 0#32
  ![v80.toNat, 0, 0]
def k0_off79 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v83 : Index := Scalar.indexCast arg12
  let c1_i32_29 : BitVec 32 := 1#32
  let v84 : Index := Scalar.indexCast c1_i32_29
  let c0_30 : Index := 0#32
  ![v83.toNat, 1, 0]
def k0_off80 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v86 : Index := Scalar.indexCast arg12
  let c2_i32_31 : BitVec 32 := 2#32
  let v87 : Index := Scalar.indexCast c2_i32_31
  let c0_32 : Index := 0#32
  ![v86.toNat, 2, 0]
def k0_off81 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v89 : Index := Scalar.indexCast arg12
  let c3_i32_33 : BitVec 32 := 3#32
  let v90 : Index := Scalar.indexCast c3_i32_33
  let c0_34 : Index := 0#32
  ![v89.toNat, 3, 0]
def k0_off82 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v92 : Index := Scalar.indexCast arg12
  let c4_i32_35 : BitVec 32 := 4#32
  let v93 : Index := Scalar.indexCast c4_i32_35
  let c0_36 : Index := 0#32
  ![v92.toNat, 4, 0]
def k0_off83 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v95 : Index := Scalar.indexCast arg12
  let c5_i32_37 : BitVec 32 := 5#32
  let v96 : Index := Scalar.indexCast c5_i32_37
  let c0_38 : Index := 0#32
  ![v95.toNat, 5, 0]
def k0_off84 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v98 : Index := Scalar.indexCast arg12
  let c6_i32_39 : BitVec 32 := 6#32
  let v99 : Index := Scalar.indexCast c6_i32_39
  let c0_40 : Index := 0#32
  ![v98.toNat, 6, 0]
def k0_off85 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v101 : Index := Scalar.indexCast arg12
  let c7_i32_41 : BitVec 32 := 7#32
  let v102 : Index := Scalar.indexCast c7_i32_41
  let c0_42 : Index := 0#32
  ![v101.toNat, 7, 0]
def k0_off86 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_43 : BitVec 32 := 128#32
  let v104 : BitVec 32 := Scalar.muli arg12 c128_i32_43
  let c16_i32 : BitVec 32 := 16#32
  let v105 : BitVec 32 := Scalar.addi v104 c16_i32
  let v106 : Index := Scalar.indexCast v105
  ![v106.toNat]

def k0_chk73 (i : grid0.Coords) (k0_t4 : Fin (k0_t4_loop i).trips) (v121 : IVec S16 32) : Prop :=
  (∀ a x, ((![v121] : Fin 1 → IVec S16 32) a x).toNat < S40000.size a)
theorem k0_idx73_inb : ∀ (i : grid0.Coords) (k0_t4 : Fin (k0_t4_loop i).trips) (v121 : IVec S16 32) (k0_hw73 : k0_chk73 i k0_t4 v121), ∀ a x, ((![v121] : Fin 1 → IVec S16 32) a x).toNat < S40000.size a := fun i k0_t4 v121 k0_hw73 => k0_hw73

def k0_chk74 (i : grid0.Coords) (k0_t4 : Fin (k0_t4_loop i).trips) (v124 : IVec S16 32) : Prop :=
  (∀ a x, ((![v124] : Fin 1 → IVec S16 32) a x).toNat < S40000.size a)
theorem k0_idx74_inb : ∀ (i : grid0.Coords) (k0_t4 : Fin (k0_t4_loop i).trips) (v124 : IVec S16 32) (k0_hw74 : k0_chk74 i k0_t4 v124), ∀ a x, ((![v124] : Fin 1 → IVec S16 32) a x).toNat < S40000.size a := fun i k0_t4 v124 k0_hw74 => k0_hw74

def k0_chk75 (i : grid0.Coords) (k0_t4 : Fin (k0_t4_loop i).trips) (v127 : IVec S16 32) : Prop :=
  (∀ a x, ((![v127] : Fin 1 → IVec S16 32) a x).toNat < S40000.size a)
theorem k0_idx75_inb : ∀ (i : grid0.Coords) (k0_t4 : Fin (k0_t4_loop i).trips) (v127 : IVec S16 32) (k0_hw75 : k0_chk75 i k0_t4 v127), ∀ a x, ((![v127] : Fin 1 → IVec S16 32) a x).toNat < S40000.size a := fun i k0_t4 v127 k0_hw75 => k0_hw75

def k0_chk76 (i : grid0.Coords) (k0_t4 : Fin (k0_t4_loop i).trips) (v130 : IVec S16 32) : Prop :=
  (∀ a x, ((![v130] : Fin 1 → IVec S16 32) a x).toNat < S40000.size a)
theorem k0_idx76_inb : ∀ (i : grid0.Coords) (k0_t4 : Fin (k0_t4_loop i).trips) (v130 : IVec S16 32) (k0_hw76 : k0_chk76 i k0_t4 v130), ∀ a x, ((![v130] : Fin 1 → IVec S16 32) a x).toNat < S40000.size a := fun i k0_t4 v130 k0_hw76 => k0_hw76

def k0_chk77 (i : grid0.Coords) (k0_t4 : Fin (k0_t4_loop i).trips) (v133 : IVec S16 32) : Prop :=
  (∀ a x, ((![v133] : Fin 1 → IVec S16 32) a x).toNat < S40000.size a)
theorem k0_idx77_inb : ∀ (i : grid0.Coords) (k0_t4 : Fin (k0_t4_loop i).trips) (v133 : IVec S16 32) (k0_hw77 : k0_chk77 i k0_t4 v133), ∀ a x, ((![v133] : Fin 1 → IVec S16 32) a x).toNat < S40000.size a := fun i k0_t4 v133 k0_hw77 => k0_hw77

def k0_chk78 (i : grid0.Coords) (k0_t4 : Fin (k0_t4_loop i).trips) (v136 : IVec S16 32) : Prop :=
  (∀ a x, ((![v136] : Fin 1 → IVec S16 32) a x).toNat < S40000.size a)
theorem k0_idx78_inb : ∀ (i : grid0.Coords) (k0_t4 : Fin (k0_t4_loop i).trips) (v136 : IVec S16 32) (k0_hw78 : k0_chk78 i k0_t4 v136), ∀ a x, ((![v136] : Fin 1 → IVec S16 32) a x).toNat < S40000.size a := fun i k0_t4 v136 k0_hw78 => k0_hw78

def k0_chk79 (i : grid0.Coords) (k0_t4 : Fin (k0_t4_loop i).trips) (v139 : IVec S16 32) : Prop :=
  (∀ a x, ((![v139] : Fin 1 → IVec S16 32) a x).toNat < S40000.size a)
theorem k0_idx79_inb : ∀ (i : grid0.Coords) (k0_t4 : Fin (k0_t4_loop i).trips) (v139 : IVec S16 32) (k0_hw79 : k0_chk79 i k0_t4 v139), ∀ a x, ((![v139] : Fin 1 → IVec S16 32) a x).toNat < S40000.size a := fun i k0_t4 v139 k0_hw79 => k0_hw79

def k0_chk80 (i : grid0.Coords) (k0_t4 : Fin (k0_t4_loop i).trips) (v142 : IVec S16 32) : Prop :=
  (∀ a x, ((![v142] : Fin 1 → IVec S16 32) a x).toNat < S40000.size a)
theorem k0_idx80_inb : ∀ (i : grid0.Coords) (k0_t4 : Fin (k0_t4_loop i).trips) (v142 : IVec S16 32) (k0_hw80 : k0_chk80 i k0_t4 v142), ∀ a x, ((![v142] : Fin 1 → IVec S16 32) a x).toNat < S40000.size a := fun i k0_t4 v142 k0_hw80 => k0_hw80
def k0_off87 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v144 : Index := Scalar.indexCast arg12
  let c0_i32_55 : BitVec 32 := 0#32
  let v145 : Index := Scalar.indexCast c0_i32_55
  let c16_56 : Index := 16#32
  ![v144.toNat, 0, 16]
def k0_off88 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v147 : Index := Scalar.indexCast arg12
  let c1_i32_57 : BitVec 32 := 1#32
  let v148 : Index := Scalar.indexCast c1_i32_57
  let c16_58 : Index := 16#32
  ![v147.toNat, 1, 16]
def k0_off89 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v150 : Index := Scalar.indexCast arg12
  let c2_i32_59 : BitVec 32 := 2#32
  let v151 : Index := Scalar.indexCast c2_i32_59
  let c16_60 : Index := 16#32
  ![v150.toNat, 2, 16]
def k0_off90 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v153 : Index := Scalar.indexCast arg12
  let c3_i32_61 : BitVec 32 := 3#32
  let v154 : Index := Scalar.indexCast c3_i32_61
  let c16_62 : Index := 16#32
  ![v153.toNat, 3, 16]
def k0_off91 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v156 : Index := Scalar.indexCast arg12
  let c4_i32_63 : BitVec 32 := 4#32
  let v157 : Index := Scalar.indexCast c4_i32_63
  let c16_64 : Index := 16#32
  ![v156.toNat, 4, 16]
def k0_off92 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v159 : Index := Scalar.indexCast arg12
  let c5_i32_65 : BitVec 32 := 5#32
  let v160 : Index := Scalar.indexCast c5_i32_65
  let c16_66 : Index := 16#32
  ![v159.toNat, 5, 16]
def k0_off93 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v162 : Index := Scalar.indexCast arg12
  let c6_i32_67 : BitVec 32 := 6#32
  let v163 : Index := Scalar.indexCast c6_i32_67
  let c16_68 : Index := 16#32
  ![v162.toNat, 6, 16]
def k0_off94 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v165 : Index := Scalar.indexCast arg12
  let c7_i32_69 : BitVec 32 := 7#32
  let v166 : Index := Scalar.indexCast c7_i32_69
  let c16_70 : Index := 16#32
  ![v165.toNat, 7, 16]
def k0_off95 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_71 : BitVec 32 := 128#32
  let v168 : BitVec 32 := Scalar.muli arg12 c128_i32_71
  let c32_i32_72 : BitVec 32 := 32#32
  let v169 : BitVec 32 := Scalar.addi v168 c32_i32_72
  let v170 : Index := Scalar.indexCast v169
  ![v170.toNat]

def k0_chk81 (i : grid0.Coords) (k0_t4 : Fin (k0_t4_loop i).trips) (v185 : IVec S16 32) : Prop :=
  (∀ a x, ((![v185] : Fin 1 → IVec S16 32) a x).toNat < S40000.size a)
theorem k0_idx81_inb : ∀ (i : grid0.Coords) (k0_t4 : Fin (k0_t4_loop i).trips) (v185 : IVec S16 32) (k0_hw81 : k0_chk81 i k0_t4 v185), ∀ a x, ((![v185] : Fin 1 → IVec S16 32) a x).toNat < S40000.size a := fun i k0_t4 v185 k0_hw81 => k0_hw81

def k0_chk82 (i : grid0.Coords) (k0_t4 : Fin (k0_t4_loop i).trips) (v188 : IVec S16 32) : Prop :=
  (∀ a x, ((![v188] : Fin 1 → IVec S16 32) a x).toNat < S40000.size a)
theorem k0_idx82_inb : ∀ (i : grid0.Coords) (k0_t4 : Fin (k0_t4_loop i).trips) (v188 : IVec S16 32) (k0_hw82 : k0_chk82 i k0_t4 v188), ∀ a x, ((![v188] : Fin 1 → IVec S16 32) a x).toNat < S40000.size a := fun i k0_t4 v188 k0_hw82 => k0_hw82

def k0_chk83 (i : grid0.Coords) (k0_t4 : Fin (k0_t4_loop i).trips) (v191 : IVec S16 32) : Prop :=
  (∀ a x, ((![v191] : Fin 1 → IVec S16 32) a x).toNat < S40000.size a)
theorem k0_idx83_inb : ∀ (i : grid0.Coords) (k0_t4 : Fin (k0_t4_loop i).trips) (v191 : IVec S16 32) (k0_hw83 : k0_chk83 i k0_t4 v191), ∀ a x, ((![v191] : Fin 1 → IVec S16 32) a x).toNat < S40000.size a := fun i k0_t4 v191 k0_hw83 => k0_hw83

def k0_chk84 (i : grid0.Coords) (k0_t4 : Fin (k0_t4_loop i).trips) (v194 : IVec S16 32) : Prop :=
  (∀ a x, ((![v194] : Fin 1 → IVec S16 32) a x).toNat < S40000.size a)
theorem k0_idx84_inb : ∀ (i : grid0.Coords) (k0_t4 : Fin (k0_t4_loop i).trips) (v194 : IVec S16 32) (k0_hw84 : k0_chk84 i k0_t4 v194), ∀ a x, ((![v194] : Fin 1 → IVec S16 32) a x).toNat < S40000.size a := fun i k0_t4 v194 k0_hw84 => k0_hw84

def k0_chk85 (i : grid0.Coords) (k0_t4 : Fin (k0_t4_loop i).trips) (v197 : IVec S16 32) : Prop :=
  (∀ a x, ((![v197] : Fin 1 → IVec S16 32) a x).toNat < S40000.size a)
theorem k0_idx85_inb : ∀ (i : grid0.Coords) (k0_t4 : Fin (k0_t4_loop i).trips) (v197 : IVec S16 32) (k0_hw85 : k0_chk85 i k0_t4 v197), ∀ a x, ((![v197] : Fin 1 → IVec S16 32) a x).toNat < S40000.size a := fun i k0_t4 v197 k0_hw85 => k0_hw85

def k0_chk86 (i : grid0.Coords) (k0_t4 : Fin (k0_t4_loop i).trips) (v200 : IVec S16 32) : Prop :=
  (∀ a x, ((![v200] : Fin 1 → IVec S16 32) a x).toNat < S40000.size a)
theorem k0_idx86_inb : ∀ (i : grid0.Coords) (k0_t4 : Fin (k0_t4_loop i).trips) (v200 : IVec S16 32) (k0_hw86 : k0_chk86 i k0_t4 v200), ∀ a x, ((![v200] : Fin 1 → IVec S16 32) a x).toNat < S40000.size a := fun i k0_t4 v200 k0_hw86 => k0_hw86

def k0_chk87 (i : grid0.Coords) (k0_t4 : Fin (k0_t4_loop i).trips) (v203 : IVec S16 32) : Prop :=
  (∀ a x, ((![v203] : Fin 1 → IVec S16 32) a x).toNat < S40000.size a)
theorem k0_idx87_inb : ∀ (i : grid0.Coords) (k0_t4 : Fin (k0_t4_loop i).trips) (v203 : IVec S16 32) (k0_hw87 : k0_chk87 i k0_t4 v203), ∀ a x, ((![v203] : Fin 1 → IVec S16 32) a x).toNat < S40000.size a := fun i k0_t4 v203 k0_hw87 => k0_hw87

def k0_chk88 (i : grid0.Coords) (k0_t4 : Fin (k0_t4_loop i).trips) (v206 : IVec S16 32) : Prop :=
  (∀ a x, ((![v206] : Fin 1 → IVec S16 32) a x).toNat < S40000.size a)
theorem k0_idx88_inb : ∀ (i : grid0.Coords) (k0_t4 : Fin (k0_t4_loop i).trips) (v206 : IVec S16 32) (k0_hw88 : k0_chk88 i k0_t4 v206), ∀ a x, ((![v206] : Fin 1 → IVec S16 32) a x).toNat < S40000.size a := fun i k0_t4 v206 k0_hw88 => k0_hw88
def k0_off96 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v208 : Index := Scalar.indexCast arg12
  let c0_i32_84 : BitVec 32 := 0#32
  let v209 : Index := Scalar.indexCast c0_i32_84
  let c32_85 : Index := 32#32
  ![v208.toNat, 0, 32]
def k0_off97 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v211 : Index := Scalar.indexCast arg12
  let c1_i32_86 : BitVec 32 := 1#32
  let v212 : Index := Scalar.indexCast c1_i32_86
  let c32_87 : Index := 32#32
  ![v211.toNat, 1, 32]
def k0_off98 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v214 : Index := Scalar.indexCast arg12
  let c2_i32_88 : BitVec 32 := 2#32
  let v215 : Index := Scalar.indexCast c2_i32_88
  let c32_89 : Index := 32#32
  ![v214.toNat, 2, 32]
def k0_off99 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v217 : Index := Scalar.indexCast arg12
  let c3_i32_90 : BitVec 32 := 3#32
  let v218 : Index := Scalar.indexCast c3_i32_90
  let c32_91 : Index := 32#32
  ![v217.toNat, 3, 32]
def k0_off100 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v220 : Index := Scalar.indexCast arg12
  let c4_i32_92 : BitVec 32 := 4#32
  let v221 : Index := Scalar.indexCast c4_i32_92
  let c32_93 : Index := 32#32
  ![v220.toNat, 4, 32]
def k0_off101 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v223 : Index := Scalar.indexCast arg12
  let c5_i32_94 : BitVec 32 := 5#32
  let v224 : Index := Scalar.indexCast c5_i32_94
  let c32_95 : Index := 32#32
  ![v223.toNat, 5, 32]
def k0_off102 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v226 : Index := Scalar.indexCast arg12
  let c6_i32_96 : BitVec 32 := 6#32
  let v227 : Index := Scalar.indexCast c6_i32_96
  let c32_97 : Index := 32#32
  ![v226.toNat, 6, 32]
def k0_off103 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v229 : Index := Scalar.indexCast arg12
  let c7_i32_98 : BitVec 32 := 7#32
  let v230 : Index := Scalar.indexCast c7_i32_98
  let c32_99 : Index := 32#32
  ![v229.toNat, 7, 32]
def k0_off104 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_100 : BitVec 32 := 128#32
  let v232 : BitVec 32 := Scalar.muli arg12 c128_i32_100
  let c48_i32 : BitVec 32 := 48#32
  let v233 : BitVec 32 := Scalar.addi v232 c48_i32
  let v234 : Index := Scalar.indexCast v233
  ![v234.toNat]

def k0_chk89 (i : grid0.Coords) (k0_t4 : Fin (k0_t4_loop i).trips) (v249 : IVec S16 32) : Prop :=
  (∀ a x, ((![v249] : Fin 1 → IVec S16 32) a x).toNat < S40000.size a)
theorem k0_idx89_inb : ∀ (i : grid0.Coords) (k0_t4 : Fin (k0_t4_loop i).trips) (v249 : IVec S16 32) (k0_hw89 : k0_chk89 i k0_t4 v249), ∀ a x, ((![v249] : Fin 1 → IVec S16 32) a x).toNat < S40000.size a := fun i k0_t4 v249 k0_hw89 => k0_hw89

def k0_chk90 (i : grid0.Coords) (k0_t4 : Fin (k0_t4_loop i).trips) (v252 : IVec S16 32) : Prop :=
  (∀ a x, ((![v252] : Fin 1 → IVec S16 32) a x).toNat < S40000.size a)
theorem k0_idx90_inb : ∀ (i : grid0.Coords) (k0_t4 : Fin (k0_t4_loop i).trips) (v252 : IVec S16 32) (k0_hw90 : k0_chk90 i k0_t4 v252), ∀ a x, ((![v252] : Fin 1 → IVec S16 32) a x).toNat < S40000.size a := fun i k0_t4 v252 k0_hw90 => k0_hw90

def k0_chk91 (i : grid0.Coords) (k0_t4 : Fin (k0_t4_loop i).trips) (v255 : IVec S16 32) : Prop :=
  (∀ a x, ((![v255] : Fin 1 → IVec S16 32) a x).toNat < S40000.size a)
theorem k0_idx91_inb : ∀ (i : grid0.Coords) (k0_t4 : Fin (k0_t4_loop i).trips) (v255 : IVec S16 32) (k0_hw91 : k0_chk91 i k0_t4 v255), ∀ a x, ((![v255] : Fin 1 → IVec S16 32) a x).toNat < S40000.size a := fun i k0_t4 v255 k0_hw91 => k0_hw91

def k0_chk92 (i : grid0.Coords) (k0_t4 : Fin (k0_t4_loop i).trips) (v258 : IVec S16 32) : Prop :=
  (∀ a x, ((![v258] : Fin 1 → IVec S16 32) a x).toNat < S40000.size a)
theorem k0_idx92_inb : ∀ (i : grid0.Coords) (k0_t4 : Fin (k0_t4_loop i).trips) (v258 : IVec S16 32) (k0_hw92 : k0_chk92 i k0_t4 v258), ∀ a x, ((![v258] : Fin 1 → IVec S16 32) a x).toNat < S40000.size a := fun i k0_t4 v258 k0_hw92 => k0_hw92

def k0_chk93 (i : grid0.Coords) (k0_t4 : Fin (k0_t4_loop i).trips) (v261 : IVec S16 32) : Prop :=
  (∀ a x, ((![v261] : Fin 1 → IVec S16 32) a x).toNat < S40000.size a)
theorem k0_idx93_inb : ∀ (i : grid0.Coords) (k0_t4 : Fin (k0_t4_loop i).trips) (v261 : IVec S16 32) (k0_hw93 : k0_chk93 i k0_t4 v261), ∀ a x, ((![v261] : Fin 1 → IVec S16 32) a x).toNat < S40000.size a := fun i k0_t4 v261 k0_hw93 => k0_hw93

def k0_chk94 (i : grid0.Coords) (k0_t4 : Fin (k0_t4_loop i).trips) (v264 : IVec S16 32) : Prop :=
  (∀ a x, ((![v264] : Fin 1 → IVec S16 32) a x).toNat < S40000.size a)
theorem k0_idx94_inb : ∀ (i : grid0.Coords) (k0_t4 : Fin (k0_t4_loop i).trips) (v264 : IVec S16 32) (k0_hw94 : k0_chk94 i k0_t4 v264), ∀ a x, ((![v264] : Fin 1 → IVec S16 32) a x).toNat < S40000.size a := fun i k0_t4 v264 k0_hw94 => k0_hw94

def k0_chk95 (i : grid0.Coords) (k0_t4 : Fin (k0_t4_loop i).trips) (v267 : IVec S16 32) : Prop :=
  (∀ a x, ((![v267] : Fin 1 → IVec S16 32) a x).toNat < S40000.size a)
theorem k0_idx95_inb : ∀ (i : grid0.Coords) (k0_t4 : Fin (k0_t4_loop i).trips) (v267 : IVec S16 32) (k0_hw95 : k0_chk95 i k0_t4 v267), ∀ a x, ((![v267] : Fin 1 → IVec S16 32) a x).toNat < S40000.size a := fun i k0_t4 v267 k0_hw95 => k0_hw95

def k0_chk96 (i : grid0.Coords) (k0_t4 : Fin (k0_t4_loop i).trips) (v270 : IVec S16 32) : Prop :=
  (∀ a x, ((![v270] : Fin 1 → IVec S16 32) a x).toNat < S40000.size a)
theorem k0_idx96_inb : ∀ (i : grid0.Coords) (k0_t4 : Fin (k0_t4_loop i).trips) (v270 : IVec S16 32) (k0_hw96 : k0_chk96 i k0_t4 v270), ∀ a x, ((![v270] : Fin 1 → IVec S16 32) a x).toNat < S40000.size a := fun i k0_t4 v270 k0_hw96 => k0_hw96
def k0_off105 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v272 : Index := Scalar.indexCast arg12
  let c0_i32_112 : BitVec 32 := 0#32
  let v273 : Index := Scalar.indexCast c0_i32_112
  let c48 : Index := 48#32
  ![v272.toNat, 0, 48]
def k0_off106 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v275 : Index := Scalar.indexCast arg12
  let c1_i32_113 : BitVec 32 := 1#32
  let v276 : Index := Scalar.indexCast c1_i32_113
  let c48_114 : Index := 48#32
  ![v275.toNat, 1, 48]
def k0_off107 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v278 : Index := Scalar.indexCast arg12
  let c2_i32_115 : BitVec 32 := 2#32
  let v279 : Index := Scalar.indexCast c2_i32_115
  let c48_116 : Index := 48#32
  ![v278.toNat, 2, 48]
def k0_off108 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v281 : Index := Scalar.indexCast arg12
  let c3_i32_117 : BitVec 32 := 3#32
  let v282 : Index := Scalar.indexCast c3_i32_117
  let c48_118 : Index := 48#32
  ![v281.toNat, 3, 48]
def k0_off109 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v284 : Index := Scalar.indexCast arg12
  let c4_i32_119 : BitVec 32 := 4#32
  let v285 : Index := Scalar.indexCast c4_i32_119
  let c48_120 : Index := 48#32
  ![v284.toNat, 4, 48]
def k0_off110 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v287 : Index := Scalar.indexCast arg12
  let c5_i32_121 : BitVec 32 := 5#32
  let v288 : Index := Scalar.indexCast c5_i32_121
  let c48_122 : Index := 48#32
  ![v287.toNat, 5, 48]
def k0_off111 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v290 : Index := Scalar.indexCast arg12
  let c6_i32_123 : BitVec 32 := 6#32
  let v291 : Index := Scalar.indexCast c6_i32_123
  let c48_124 : Index := 48#32
  ![v290.toNat, 6, 48]
def k0_off112 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v293 : Index := Scalar.indexCast arg12
  let c7_i32_125 : BitVec 32 := 7#32
  let v294 : Index := Scalar.indexCast c7_i32_125
  let c48_126 : Index := 48#32
  ![v293.toNat, 7, 48]
def k0_off113 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_127 : BitVec 32 := 128#32
  let v296 : BitVec 32 := Scalar.muli arg12 c128_i32_127
  let c64_i32 : BitVec 32 := 64#32
  let v297 : BitVec 32 := Scalar.addi v296 c64_i32
  let v298 : Index := Scalar.indexCast v297
  ![v298.toNat]

def k0_chk97 (i : grid0.Coords) (k0_t4 : Fin (k0_t4_loop i).trips) (v313 : IVec S16 32) : Prop :=
  (∀ a x, ((![v313] : Fin 1 → IVec S16 32) a x).toNat < S40000.size a)
theorem k0_idx97_inb : ∀ (i : grid0.Coords) (k0_t4 : Fin (k0_t4_loop i).trips) (v313 : IVec S16 32) (k0_hw97 : k0_chk97 i k0_t4 v313), ∀ a x, ((![v313] : Fin 1 → IVec S16 32) a x).toNat < S40000.size a := fun i k0_t4 v313 k0_hw97 => k0_hw97

def k0_chk98 (i : grid0.Coords) (k0_t4 : Fin (k0_t4_loop i).trips) (v316 : IVec S16 32) : Prop :=
  (∀ a x, ((![v316] : Fin 1 → IVec S16 32) a x).toNat < S40000.size a)
theorem k0_idx98_inb : ∀ (i : grid0.Coords) (k0_t4 : Fin (k0_t4_loop i).trips) (v316 : IVec S16 32) (k0_hw98 : k0_chk98 i k0_t4 v316), ∀ a x, ((![v316] : Fin 1 → IVec S16 32) a x).toNat < S40000.size a := fun i k0_t4 v316 k0_hw98 => k0_hw98

def k0_chk99 (i : grid0.Coords) (k0_t4 : Fin (k0_t4_loop i).trips) (v319 : IVec S16 32) : Prop :=
  (∀ a x, ((![v319] : Fin 1 → IVec S16 32) a x).toNat < S40000.size a)
theorem k0_idx99_inb : ∀ (i : grid0.Coords) (k0_t4 : Fin (k0_t4_loop i).trips) (v319 : IVec S16 32) (k0_hw99 : k0_chk99 i k0_t4 v319), ∀ a x, ((![v319] : Fin 1 → IVec S16 32) a x).toNat < S40000.size a := fun i k0_t4 v319 k0_hw99 => k0_hw99

def k0_chk100 (i : grid0.Coords) (k0_t4 : Fin (k0_t4_loop i).trips) (v322 : IVec S16 32) : Prop :=
  (∀ a x, ((![v322] : Fin 1 → IVec S16 32) a x).toNat < S40000.size a)
theorem k0_idx100_inb : ∀ (i : grid0.Coords) (k0_t4 : Fin (k0_t4_loop i).trips) (v322 : IVec S16 32) (k0_hw100 : k0_chk100 i k0_t4 v322), ∀ a x, ((![v322] : Fin 1 → IVec S16 32) a x).toNat < S40000.size a := fun i k0_t4 v322 k0_hw100 => k0_hw100

def k0_chk101 (i : grid0.Coords) (k0_t4 : Fin (k0_t4_loop i).trips) (v325 : IVec S16 32) : Prop :=
  (∀ a x, ((![v325] : Fin 1 → IVec S16 32) a x).toNat < S40000.size a)
theorem k0_idx101_inb : ∀ (i : grid0.Coords) (k0_t4 : Fin (k0_t4_loop i).trips) (v325 : IVec S16 32) (k0_hw101 : k0_chk101 i k0_t4 v325), ∀ a x, ((![v325] : Fin 1 → IVec S16 32) a x).toNat < S40000.size a := fun i k0_t4 v325 k0_hw101 => k0_hw101

def k0_chk102 (i : grid0.Coords) (k0_t4 : Fin (k0_t4_loop i).trips) (v328 : IVec S16 32) : Prop :=
  (∀ a x, ((![v328] : Fin 1 → IVec S16 32) a x).toNat < S40000.size a)
theorem k0_idx102_inb : ∀ (i : grid0.Coords) (k0_t4 : Fin (k0_t4_loop i).trips) (v328 : IVec S16 32) (k0_hw102 : k0_chk102 i k0_t4 v328), ∀ a x, ((![v328] : Fin 1 → IVec S16 32) a x).toNat < S40000.size a := fun i k0_t4 v328 k0_hw102 => k0_hw102

def k0_chk103 (i : grid0.Coords) (k0_t4 : Fin (k0_t4_loop i).trips) (v331 : IVec S16 32) : Prop :=
  (∀ a x, ((![v331] : Fin 1 → IVec S16 32) a x).toNat < S40000.size a)
theorem k0_idx103_inb : ∀ (i : grid0.Coords) (k0_t4 : Fin (k0_t4_loop i).trips) (v331 : IVec S16 32) (k0_hw103 : k0_chk103 i k0_t4 v331), ∀ a x, ((![v331] : Fin 1 → IVec S16 32) a x).toNat < S40000.size a := fun i k0_t4 v331 k0_hw103 => k0_hw103

def k0_chk104 (i : grid0.Coords) (k0_t4 : Fin (k0_t4_loop i).trips) (v334 : IVec S16 32) : Prop :=
  (∀ a x, ((![v334] : Fin 1 → IVec S16 32) a x).toNat < S40000.size a)
theorem k0_idx104_inb : ∀ (i : grid0.Coords) (k0_t4 : Fin (k0_t4_loop i).trips) (v334 : IVec S16 32) (k0_hw104 : k0_chk104 i k0_t4 v334), ∀ a x, ((![v334] : Fin 1 → IVec S16 32) a x).toNat < S40000.size a := fun i k0_t4 v334 k0_hw104 => k0_hw104
def k0_off114 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v336 : Index := Scalar.indexCast arg12
  let c0_i32_139 : BitVec 32 := 0#32
  let v337 : Index := Scalar.indexCast c0_i32_139
  let c64 : Index := 64#32
  ![v336.toNat, 0, 64]
def k0_off115 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v339 : Index := Scalar.indexCast arg12
  let c1_i32_140 : BitVec 32 := 1#32
  let v340 : Index := Scalar.indexCast c1_i32_140
  let c64_141 : Index := 64#32
  ![v339.toNat, 1, 64]
def k0_off116 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v342 : Index := Scalar.indexCast arg12
  let c2_i32_142 : BitVec 32 := 2#32
  let v343 : Index := Scalar.indexCast c2_i32_142
  let c64_143 : Index := 64#32
  ![v342.toNat, 2, 64]
def k0_off117 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v345 : Index := Scalar.indexCast arg12
  let c3_i32_144 : BitVec 32 := 3#32
  let v346 : Index := Scalar.indexCast c3_i32_144
  let c64_145 : Index := 64#32
  ![v345.toNat, 3, 64]
def k0_off118 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v348 : Index := Scalar.indexCast arg12
  let c4_i32_146 : BitVec 32 := 4#32
  let v349 : Index := Scalar.indexCast c4_i32_146
  let c64_147 : Index := 64#32
  ![v348.toNat, 4, 64]
def k0_off119 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v351 : Index := Scalar.indexCast arg12
  let c5_i32_148 : BitVec 32 := 5#32
  let v352 : Index := Scalar.indexCast c5_i32_148
  let c64_149 : Index := 64#32
  ![v351.toNat, 5, 64]
def k0_off120 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v354 : Index := Scalar.indexCast arg12
  let c6_i32_150 : BitVec 32 := 6#32
  let v355 : Index := Scalar.indexCast c6_i32_150
  let c64_151 : Index := 64#32
  ![v354.toNat, 6, 64]
def k0_off121 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v357 : Index := Scalar.indexCast arg12
  let c7_i32_152 : BitVec 32 := 7#32
  let v358 : Index := Scalar.indexCast c7_i32_152
  let c64_153 : Index := 64#32
  ![v357.toNat, 7, 64]
def k0_off122 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_154 : BitVec 32 := 128#32
  let v360 : BitVec 32 := Scalar.muli arg12 c128_i32_154
  let c80_i32 : BitVec 32 := 80#32
  let v361 : BitVec 32 := Scalar.addi v360 c80_i32
  let v362 : Index := Scalar.indexCast v361
  ![v362.toNat]

def k0_chk105 (i : grid0.Coords) (k0_t4 : Fin (k0_t4_loop i).trips) (v377 : IVec S16 32) : Prop :=
  (∀ a x, ((![v377] : Fin 1 → IVec S16 32) a x).toNat < S40000.size a)
theorem k0_idx105_inb : ∀ (i : grid0.Coords) (k0_t4 : Fin (k0_t4_loop i).trips) (v377 : IVec S16 32) (k0_hw105 : k0_chk105 i k0_t4 v377), ∀ a x, ((![v377] : Fin 1 → IVec S16 32) a x).toNat < S40000.size a := fun i k0_t4 v377 k0_hw105 => k0_hw105

def k0_chk106 (i : grid0.Coords) (k0_t4 : Fin (k0_t4_loop i).trips) (v380 : IVec S16 32) : Prop :=
  (∀ a x, ((![v380] : Fin 1 → IVec S16 32) a x).toNat < S40000.size a)
theorem k0_idx106_inb : ∀ (i : grid0.Coords) (k0_t4 : Fin (k0_t4_loop i).trips) (v380 : IVec S16 32) (k0_hw106 : k0_chk106 i k0_t4 v380), ∀ a x, ((![v380] : Fin 1 → IVec S16 32) a x).toNat < S40000.size a := fun i k0_t4 v380 k0_hw106 => k0_hw106

def k0_chk107 (i : grid0.Coords) (k0_t4 : Fin (k0_t4_loop i).trips) (v383 : IVec S16 32) : Prop :=
  (∀ a x, ((![v383] : Fin 1 → IVec S16 32) a x).toNat < S40000.size a)
theorem k0_idx107_inb : ∀ (i : grid0.Coords) (k0_t4 : Fin (k0_t4_loop i).trips) (v383 : IVec S16 32) (k0_hw107 : k0_chk107 i k0_t4 v383), ∀ a x, ((![v383] : Fin 1 → IVec S16 32) a x).toNat < S40000.size a := fun i k0_t4 v383 k0_hw107 => k0_hw107

def k0_chk108 (i : grid0.Coords) (k0_t4 : Fin (k0_t4_loop i).trips) (v386 : IVec S16 32) : Prop :=
  (∀ a x, ((![v386] : Fin 1 → IVec S16 32) a x).toNat < S40000.size a)
theorem k0_idx108_inb : ∀ (i : grid0.Coords) (k0_t4 : Fin (k0_t4_loop i).trips) (v386 : IVec S16 32) (k0_hw108 : k0_chk108 i k0_t4 v386), ∀ a x, ((![v386] : Fin 1 → IVec S16 32) a x).toNat < S40000.size a := fun i k0_t4 v386 k0_hw108 => k0_hw108

def k0_chk109 (i : grid0.Coords) (k0_t4 : Fin (k0_t4_loop i).trips) (v389 : IVec S16 32) : Prop :=
  (∀ a x, ((![v389] : Fin 1 → IVec S16 32) a x).toNat < S40000.size a)
theorem k0_idx109_inb : ∀ (i : grid0.Coords) (k0_t4 : Fin (k0_t4_loop i).trips) (v389 : IVec S16 32) (k0_hw109 : k0_chk109 i k0_t4 v389), ∀ a x, ((![v389] : Fin 1 → IVec S16 32) a x).toNat < S40000.size a := fun i k0_t4 v389 k0_hw109 => k0_hw109

def k0_chk110 (i : grid0.Coords) (k0_t4 : Fin (k0_t4_loop i).trips) (v392 : IVec S16 32) : Prop :=
  (∀ a x, ((![v392] : Fin 1 → IVec S16 32) a x).toNat < S40000.size a)
theorem k0_idx110_inb : ∀ (i : grid0.Coords) (k0_t4 : Fin (k0_t4_loop i).trips) (v392 : IVec S16 32) (k0_hw110 : k0_chk110 i k0_t4 v392), ∀ a x, ((![v392] : Fin 1 → IVec S16 32) a x).toNat < S40000.size a := fun i k0_t4 v392 k0_hw110 => k0_hw110

def k0_chk111 (i : grid0.Coords) (k0_t4 : Fin (k0_t4_loop i).trips) (v395 : IVec S16 32) : Prop :=
  (∀ a x, ((![v395] : Fin 1 → IVec S16 32) a x).toNat < S40000.size a)
theorem k0_idx111_inb : ∀ (i : grid0.Coords) (k0_t4 : Fin (k0_t4_loop i).trips) (v395 : IVec S16 32) (k0_hw111 : k0_chk111 i k0_t4 v395), ∀ a x, ((![v395] : Fin 1 → IVec S16 32) a x).toNat < S40000.size a := fun i k0_t4 v395 k0_hw111 => k0_hw111

def k0_chk112 (i : grid0.Coords) (k0_t4 : Fin (k0_t4_loop i).trips) (v398 : IVec S16 32) : Prop :=
  (∀ a x, ((![v398] : Fin 1 → IVec S16 32) a x).toNat < S40000.size a)
theorem k0_idx112_inb : ∀ (i : grid0.Coords) (k0_t4 : Fin (k0_t4_loop i).trips) (v398 : IVec S16 32) (k0_hw112 : k0_chk112 i k0_t4 v398), ∀ a x, ((![v398] : Fin 1 → IVec S16 32) a x).toNat < S40000.size a := fun i k0_t4 v398 k0_hw112 => k0_hw112
def k0_off123 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v400 : Index := Scalar.indexCast arg12
  let c0_i32_166 : BitVec 32 := 0#32
  let v401 : Index := Scalar.indexCast c0_i32_166
  let c80 : Index := 80#32
  ![v400.toNat, 0, 80]
def k0_off124 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v403 : Index := Scalar.indexCast arg12
  let c1_i32_167 : BitVec 32 := 1#32
  let v404 : Index := Scalar.indexCast c1_i32_167
  let c80_168 : Index := 80#32
  ![v403.toNat, 1, 80]
def k0_off125 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v406 : Index := Scalar.indexCast arg12
  let c2_i32_169 : BitVec 32 := 2#32
  let v407 : Index := Scalar.indexCast c2_i32_169
  let c80_170 : Index := 80#32
  ![v406.toNat, 2, 80]
def k0_off126 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v409 : Index := Scalar.indexCast arg12
  let c3_i32_171 : BitVec 32 := 3#32
  let v410 : Index := Scalar.indexCast c3_i32_171
  let c80_172 : Index := 80#32
  ![v409.toNat, 3, 80]
def k0_off127 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v412 : Index := Scalar.indexCast arg12
  let c4_i32_173 : BitVec 32 := 4#32
  let v413 : Index := Scalar.indexCast c4_i32_173
  let c80_174 : Index := 80#32
  ![v412.toNat, 4, 80]
def k0_off128 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v415 : Index := Scalar.indexCast arg12
  let c5_i32_175 : BitVec 32 := 5#32
  let v416 : Index := Scalar.indexCast c5_i32_175
  let c80_176 : Index := 80#32
  ![v415.toNat, 5, 80]
def k0_off129 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v418 : Index := Scalar.indexCast arg12
  let c6_i32_177 : BitVec 32 := 6#32
  let v419 : Index := Scalar.indexCast c6_i32_177
  let c80_178 : Index := 80#32
  ![v418.toNat, 6, 80]
def k0_off130 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v421 : Index := Scalar.indexCast arg12
  let c7_i32_179 : BitVec 32 := 7#32
  let v422 : Index := Scalar.indexCast c7_i32_179
  let c80_180 : Index := 80#32
  ![v421.toNat, 7, 80]
def k0_off131 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_181 : BitVec 32 := 128#32
  let v424 : BitVec 32 := Scalar.muli arg12 c128_i32_181
  let c96_i32 : BitVec 32 := 96#32
  let v425 : BitVec 32 := Scalar.addi v424 c96_i32
  let v426 : Index := Scalar.indexCast v425
  ![v426.toNat]

def k0_chk113 (i : grid0.Coords) (k0_t4 : Fin (k0_t4_loop i).trips) (v441 : IVec S16 32) : Prop :=
  (∀ a x, ((![v441] : Fin 1 → IVec S16 32) a x).toNat < S40000.size a)
theorem k0_idx113_inb : ∀ (i : grid0.Coords) (k0_t4 : Fin (k0_t4_loop i).trips) (v441 : IVec S16 32) (k0_hw113 : k0_chk113 i k0_t4 v441), ∀ a x, ((![v441] : Fin 1 → IVec S16 32) a x).toNat < S40000.size a := fun i k0_t4 v441 k0_hw113 => k0_hw113

def k0_chk114 (i : grid0.Coords) (k0_t4 : Fin (k0_t4_loop i).trips) (v444 : IVec S16 32) : Prop :=
  (∀ a x, ((![v444] : Fin 1 → IVec S16 32) a x).toNat < S40000.size a)
theorem k0_idx114_inb : ∀ (i : grid0.Coords) (k0_t4 : Fin (k0_t4_loop i).trips) (v444 : IVec S16 32) (k0_hw114 : k0_chk114 i k0_t4 v444), ∀ a x, ((![v444] : Fin 1 → IVec S16 32) a x).toNat < S40000.size a := fun i k0_t4 v444 k0_hw114 => k0_hw114

def k0_chk115 (i : grid0.Coords) (k0_t4 : Fin (k0_t4_loop i).trips) (v447 : IVec S16 32) : Prop :=
  (∀ a x, ((![v447] : Fin 1 → IVec S16 32) a x).toNat < S40000.size a)
theorem k0_idx115_inb : ∀ (i : grid0.Coords) (k0_t4 : Fin (k0_t4_loop i).trips) (v447 : IVec S16 32) (k0_hw115 : k0_chk115 i k0_t4 v447), ∀ a x, ((![v447] : Fin 1 → IVec S16 32) a x).toNat < S40000.size a := fun i k0_t4 v447 k0_hw115 => k0_hw115

def k0_chk116 (i : grid0.Coords) (k0_t4 : Fin (k0_t4_loop i).trips) (v450 : IVec S16 32) : Prop :=
  (∀ a x, ((![v450] : Fin 1 → IVec S16 32) a x).toNat < S40000.size a)
theorem k0_idx116_inb : ∀ (i : grid0.Coords) (k0_t4 : Fin (k0_t4_loop i).trips) (v450 : IVec S16 32) (k0_hw116 : k0_chk116 i k0_t4 v450), ∀ a x, ((![v450] : Fin 1 → IVec S16 32) a x).toNat < S40000.size a := fun i k0_t4 v450 k0_hw116 => k0_hw116

def k0_chk117 (i : grid0.Coords) (k0_t4 : Fin (k0_t4_loop i).trips) (v453 : IVec S16 32) : Prop :=
  (∀ a x, ((![v453] : Fin 1 → IVec S16 32) a x).toNat < S40000.size a)
theorem k0_idx117_inb : ∀ (i : grid0.Coords) (k0_t4 : Fin (k0_t4_loop i).trips) (v453 : IVec S16 32) (k0_hw117 : k0_chk117 i k0_t4 v453), ∀ a x, ((![v453] : Fin 1 → IVec S16 32) a x).toNat < S40000.size a := fun i k0_t4 v453 k0_hw117 => k0_hw117

def k0_chk118 (i : grid0.Coords) (k0_t4 : Fin (k0_t4_loop i).trips) (v456 : IVec S16 32) : Prop :=
  (∀ a x, ((![v456] : Fin 1 → IVec S16 32) a x).toNat < S40000.size a)
theorem k0_idx118_inb : ∀ (i : grid0.Coords) (k0_t4 : Fin (k0_t4_loop i).trips) (v456 : IVec S16 32) (k0_hw118 : k0_chk118 i k0_t4 v456), ∀ a x, ((![v456] : Fin 1 → IVec S16 32) a x).toNat < S40000.size a := fun i k0_t4 v456 k0_hw118 => k0_hw118

def k0_chk119 (i : grid0.Coords) (k0_t4 : Fin (k0_t4_loop i).trips) (v459 : IVec S16 32) : Prop :=
  (∀ a x, ((![v459] : Fin 1 → IVec S16 32) a x).toNat < S40000.size a)
theorem k0_idx119_inb : ∀ (i : grid0.Coords) (k0_t4 : Fin (k0_t4_loop i).trips) (v459 : IVec S16 32) (k0_hw119 : k0_chk119 i k0_t4 v459), ∀ a x, ((![v459] : Fin 1 → IVec S16 32) a x).toNat < S40000.size a := fun i k0_t4 v459 k0_hw119 => k0_hw119

def k0_chk120 (i : grid0.Coords) (k0_t4 : Fin (k0_t4_loop i).trips) (v462 : IVec S16 32) : Prop :=
  (∀ a x, ((![v462] : Fin 1 → IVec S16 32) a x).toNat < S40000.size a)
theorem k0_idx120_inb : ∀ (i : grid0.Coords) (k0_t4 : Fin (k0_t4_loop i).trips) (v462 : IVec S16 32) (k0_hw120 : k0_chk120 i k0_t4 v462), ∀ a x, ((![v462] : Fin 1 → IVec S16 32) a x).toNat < S40000.size a := fun i k0_t4 v462 k0_hw120 => k0_hw120
def k0_off132 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v464 : Index := Scalar.indexCast arg12
  let c0_i32_193 : BitVec 32 := 0#32
  let v465 : Index := Scalar.indexCast c0_i32_193
  let c96 : Index := 96#32
  ![v464.toNat, 0, 96]
def k0_off133 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v467 : Index := Scalar.indexCast arg12
  let c1_i32_194 : BitVec 32 := 1#32
  let v468 : Index := Scalar.indexCast c1_i32_194
  let c96_195 : Index := 96#32
  ![v467.toNat, 1, 96]
def k0_off134 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v470 : Index := Scalar.indexCast arg12
  let c2_i32_196 : BitVec 32 := 2#32
  let v471 : Index := Scalar.indexCast c2_i32_196
  let c96_197 : Index := 96#32
  ![v470.toNat, 2, 96]
def k0_off135 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v473 : Index := Scalar.indexCast arg12
  let c3_i32_198 : BitVec 32 := 3#32
  let v474 : Index := Scalar.indexCast c3_i32_198
  let c96_199 : Index := 96#32
  ![v473.toNat, 3, 96]
def k0_off136 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v476 : Index := Scalar.indexCast arg12
  let c4_i32_200 : BitVec 32 := 4#32
  let v477 : Index := Scalar.indexCast c4_i32_200
  let c96_201 : Index := 96#32
  ![v476.toNat, 4, 96]
def k0_off137 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v479 : Index := Scalar.indexCast arg12
  let c5_i32_202 : BitVec 32 := 5#32
  let v480 : Index := Scalar.indexCast c5_i32_202
  let c96_203 : Index := 96#32
  ![v479.toNat, 5, 96]
def k0_off138 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v482 : Index := Scalar.indexCast arg12
  let c6_i32_204 : BitVec 32 := 6#32
  let v483 : Index := Scalar.indexCast c6_i32_204
  let c96_205 : Index := 96#32
  ![v482.toNat, 6, 96]
def k0_off139 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v485 : Index := Scalar.indexCast arg12
  let c7_i32_206 : BitVec 32 := 7#32
  let v486 : Index := Scalar.indexCast c7_i32_206
  let c96_207 : Index := 96#32
  ![v485.toNat, 7, 96]
def k0_off140 (k0_t5 : Fin k0_t5_loop.trips) : Fin 1 → Nat :=
  let c0_i32_16 : BitVec 32 := 0#32
  let c1_i32_17 : BitVec 32 := 1#32
  let arg12 : BitVec 32 := Scf.iv c0_i32_16 c1_i32_17 k0_t5
  let c128_i32_208 : BitVec 32 := 128#32
  let v488 : BitVec 32 := Scalar.muli arg12 c128_i32_208
  let c112_i32 : BitVec 32 := 112#32
  let v489 : BitVec 32 := Scalar.addi v488 c112_i32
  let v490 : Index := Scalar.indexCast v489
  ![v490.toNat]

def k0_chk121 (i : grid0.Coords) (k0_t4 : Fin (k0_t4_loop i).trips) (v505 : IVec S16 32) : Prop :=
  (∀ a x, ((![v505] : Fin 1 → IVec S16 32) a x).toNat < S40000.size a)
theorem k0_idx121_inb : ∀ (i : grid0.Coords) (k0_t4 : Fin (k0_t4_loop i).trips) (v505 : IVec S16 32) (k0_hw121 : k0_chk121 i k0_t4 v505), ∀ a x, ((![v505] : Fin 1 → IVec S16 32) a x).toNat < S40000.size a := fun i k0_t4 v505 k0_hw121 => k0_hw121

def k0_chk122 (i : grid0.Coords) (k0_t4 : Fin (k0_t4_loop i).trips) (v508 : IVec S16 32) : Prop :=
  (∀ a x, ((![v508] : Fin 1 → IVec S16 32) a x).toNat < S40000.size a)
theorem k0_idx122_inb : ∀ (i : grid0.Coords) (k0_t4 : Fin (k0_t4_loop i).trips) (v508 : IVec S16 32) (k0_hw122 : k0_chk122 i k0_t4 v508), ∀ a x, ((![v508] : Fin 1 → IVec S16 32) a x).toNat < S40000.size a := fun i k0_t4 v508 k0_hw122 => k0_hw122

def k0_chk123 (i : grid0.Coords) (k0_t4 : Fin (k0_t4_loop i).trips) (v511 : IVec S16 32) : Prop :=
  (∀ a x, ((![v511] : Fin 1 → IVec S16 32) a x).toNat < S40000.size a)
theorem k0_idx123_inb : ∀ (i : grid0.Coords) (k0_t4 : Fin (k0_t4_loop i).trips) (v511 : IVec S16 32) (k0_hw123 : k0_chk123 i k0_t4 v511), ∀ a x, ((![v511] : Fin 1 → IVec S16 32) a x).toNat < S40000.size a := fun i k0_t4 v511 k0_hw123 => k0_hw123

def k0_chk124 (i : grid0.Coords) (k0_t4 : Fin (k0_t4_loop i).trips) (v514 : IVec S16 32) : Prop :=
  (∀ a x, ((![v514] : Fin 1 → IVec S16 32) a x).toNat < S40000.size a)
theorem k0_idx124_inb : ∀ (i : grid0.Coords) (k0_t4 : Fin (k0_t4_loop i).trips) (v514 : IVec S16 32) (k0_hw124 : k0_chk124 i k0_t4 v514), ∀ a x, ((![v514] : Fin 1 → IVec S16 32) a x).toNat < S40000.size a := fun i k0_t4 v514 k0_hw124 => k0_hw124

def k0_chk125 (i : grid0.Coords) (k0_t4 : Fin (k0_t4_loop i).trips) (v517 : IVec S16 32) : Prop :=
  (∀ a x, ((![v517] : Fin 1 → IVec S16 32) a x).toNat < S40000.size a)
theorem k0_idx125_inb : ∀ (i : grid0.Coords) (k0_t4 : Fin (k0_t4_loop i).trips) (v517 : IVec S16 32) (k0_hw125 : k0_chk125 i k0_t4 v517), ∀ a x, ((![v517] : Fin 1 → IVec S16 32) a x).toNat < S40000.size a := fun i k0_t4 v517 k0_hw125 => k0_hw125

def k0_chk126 (i : grid0.Coords) (k0_t4 : Fin (k0_t4_loop i).trips) (v520 : IVec S16 32) : Prop :=
  (∀ a x, ((![v520] : Fin 1 → IVec S16 32) a x).toNat < S40000.size a)
theorem k0_idx126_inb : ∀ (i : grid0.Coords) (k0_t4 : Fin (k0_t4_loop i).trips) (v520 : IVec S16 32) (k0_hw126 : k0_chk126 i k0_t4 v520), ∀ a x, ((![v520] : Fin 1 → IVec S16 32) a x).toNat < S40000.size a := fun i k0_t4 v520 k0_hw126 => k0_hw126

def k0_chk127 (i : grid0.Coords) (k0_t4 : Fin (k0_t4_loop i).trips) (v523 : IVec S16 32) : Prop :=
  (∀ a x, ((![v523] : Fin 1 → IVec S16 32) a x).toNat < S40000.size a)
theorem k0_idx127_inb : ∀ (i : grid0.Coords) (k0_t4 : Fin (k0_t4_loop i).trips) (v523 : IVec S16 32) (k0_hw127 : k0_chk127 i k0_t4 v523), ∀ a x, ((![v523] : Fin 1 → IVec S16 32) a x).toNat < S40000.size a := fun i k0_t4 v523 k0_hw127 => k0_hw127

def k0_chk128 (i : grid0.Coords) (k0_t4 : Fin (k0_t4_loop i).trips) (v526 : IVec S16 32) : Prop :=
  (∀ a x, ((![v526] : Fin 1 → IVec S16 32) a x).toNat < S40000.size a)
theorem k0_idx128_inb : ∀ (i : grid0.Coords) (k0_t4 : Fin (k0_t4_loop i).trips) (v526 : IVec S16 32) (k0_hw128 : k0_chk128 i k0_t4 v526), ∀ a x, ((![v526] : Fin 1 → IVec S16 32) a x).toNat < S40000.size a := fun i k0_t4 v526 k0_hw128 => k0_hw128
def k0_off141 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v528 : Index := Scalar.indexCast arg12
  let c0_i32_220 : BitVec 32 := 0#32
  let v529 : Index := Scalar.indexCast c0_i32_220
  let c112 : Index := 112#32
  ![v528.toNat, 0, 112]
def k0_off142 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v531 : Index := Scalar.indexCast arg12
  let c1_i32_221 : BitVec 32 := 1#32
  let v532 : Index := Scalar.indexCast c1_i32_221
  let c112_222 : Index := 112#32
  ![v531.toNat, 1, 112]
def k0_off143 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v534 : Index := Scalar.indexCast arg12
  let c2_i32_223 : BitVec 32 := 2#32
  let v535 : Index := Scalar.indexCast c2_i32_223
  let c112_224 : Index := 112#32
  ![v534.toNat, 2, 112]
def k0_off144 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v537 : Index := Scalar.indexCast arg12
  let c3_i32_225 : BitVec 32 := 3#32
  let v538 : Index := Scalar.indexCast c3_i32_225
  let c112_226 : Index := 112#32
  ![v537.toNat, 3, 112]
def k0_off145 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v540 : Index := Scalar.indexCast arg12
  let c4_i32_227 : BitVec 32 := 4#32
  let v541 : Index := Scalar.indexCast c4_i32_227
  let c112_228 : Index := 112#32
  ![v540.toNat, 4, 112]
def k0_off146 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v543 : Index := Scalar.indexCast arg12
  let c5_i32_229 : BitVec 32 := 5#32
  let v544 : Index := Scalar.indexCast c5_i32_229
  let c112_230 : Index := 112#32
  ![v543.toNat, 5, 112]
def k0_off147 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v546 : Index := Scalar.indexCast arg12
  let c6_i32_231 : BitVec 32 := 6#32
  let v547 : Index := Scalar.indexCast c6_i32_231
  let c112_232 : Index := 112#32
  ![v546.toNat, 6, 112]
def k0_off148 (k0_t5 : Fin k0_t5_loop.trips) : Fin 3 → Nat :=
  let c0_i32_16 : BitVec 32 := 0#32
  let c1_i32_17 : BitVec 32 := 1#32
  let arg12 : BitVec 32 := Scf.iv c0_i32_16 c1_i32_17 k0_t5
  let v549 : Index := Scalar.indexCast arg12
  let c7_i32_233 : BitVec 32 := 7#32
  let v550 : Index := Scalar.indexCast c7_i32_233
  let c112_234 : Index := 112#32
  ![v549.toNat, 7, 112]
def k0_off149 (i : grid0.Coords) (k0_t4 : Fin (k0_t4_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1999_i32 : BitVec 32 := 1999#32
  let v8 : BitVec 32 := Scalar.subi c1999_i32 v1
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c32_i32 : BitVec 32 := 32#32
  let c0_i32_4 : BitVec 32 := 0#32
  let v15 : BitVec 1 := Scalar.cmpi .sgt c32_i32 c0_i32_4
  let v16 : BitVec 32 := Scalar.extui v15
  let c0_i32_5 : BitVec 32 := 0#32
  let v17 : BitVec 1 := Scalar.cmpi .slt c32_i32 c0_i32_5
  let v18 : BitVec 32 := Scalar.extui v17
  let v19 : BitVec 32 := Scalar.subi v16 v18
  let v20 : BitVec 1 := Scalar.cmpi .ne v14 v19
  let v21 : BitVec 32 := Scalar.remsi v8 c32_i32
  let c0_i32_6 : BitVec 32 := 0#32
  let v22 : BitVec 1 := Scalar.cmpi .ne v21 c0_i32_6
  let v23 : BitVec 1 := Scalar.andi v20 v22
  let v9 : BitVec 32 := Scalar.divsi v8 c32_i32
  let c1_i32_7 : BitVec 32 := 1#32
  let v24 : BitVec 32 := Scalar.subi v9 c1_i32_7
  let v25 : BitVec 32 := Scalar.select v23 v24 v9
  let c1_i32_8 : BitVec 32 := 1#32
  let v26 : BitVec 32 := Scalar.addi v25 c1_i32_8
  let v27 : BitVec 32 := Scalar.subi v26 c0_i32_9
  let c1_i32_11 : BitVec 32 := 1#32
  let v29 : BitVec 32 := Scalar.divsi v27 c1_i32_11
  let v30 : BitVec 32 := Scalar.muli v29 c1_i32_11
  let v31 : BitVec 32 := Scalar.addi c0_i32_9 v30
  let c1_i32_13 : BitVec 32 := 1#32
  let arg10 : BitVec 32 := Scf.iv v31 c1_i32_13 k0_t4
  let c32_i32_14 : BitVec 32 := 32#32
  let v34 : BitVec 32 := Scalar.muli arg10 c32_i32_14
  let v35 : BitVec 32 := Scalar.addi v1 v34
  let c25_i32_19 : BitVec 32 := 25#32
  let v39 : BitVec 32 := Scalar.muli v35 c25_i32_19
  let c0_i32_21_r5 : BitVec 32 := 0#32
  let c0_i32_22_r5 : BitVec 32 := 0#32
  ![v39.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6400000 : Shape := ⟨1, ![6400000]⟩
abbrev S8 : Shape := ⟨1, ![8]⟩
abbrev S5000 : Shape := ⟨1, ![5000]⟩
abbrev S5000x8 : Shape := ⟨2, ![5000, 8]⟩
abbrev S_ : Shape := ⟨0, ![]⟩
abbrev S1x5000 : Shape := ⟨2, ![1, 5000]⟩
abbrev S6400000x1 : Shape := ⟨2, ![6400000, 1]⟩
abbrev S6400000x5000 : Shape := ⟨2, ![6400000, 5000]⟩
abbrev S1x8 : Shape := ⟨2, ![1, 8]⟩
abbrev S6400000x8 : Shape := ⟨2, ![6400000, 8]⟩

abbrev nBuf : Space → Nat
  | .hbm => 28
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S8, .f32⟩
  | .hbm, ⟨2, _⟩ => ⟨S5000, .f32⟩
  | .hbm, ⟨3, _⟩ => ⟨S5000x8, .f32⟩
  | .hbm, ⟨4, _⟩ => ⟨S_, .f32⟩
  | .hbm, ⟨5, _⟩ => ⟨S_, .f32⟩
  | .hbm, ⟨6, _⟩ => ⟨S6400000, .f32⟩
  | .hbm, ⟨7, _⟩ => ⟨S6400000, .f32⟩
  | .hbm, ⟨8, _⟩ => ⟨S1x5000, .f32⟩
  | .hbm, ⟨9, _⟩ => ⟨S6400000x1, .f32⟩
  | .hbm, ⟨10, _⟩ => ⟨S6400000x5000, .f32⟩
  | .hbm, ⟨11, _⟩ => ⟨S6400000x5000, .f32⟩
  | .hbm, ⟨12, _⟩ => ⟨S6400000x5000, .i1⟩
  | .hbm, ⟨13, _⟩ => ⟨S6400000x5000, .i32⟩
  | .hbm, ⟨14, _⟩ => ⟨S_, .i32⟩
  | .hbm, ⟨15, _⟩ => ⟨S6400000, .i32⟩
  | .hbm, ⟨16, _⟩ => ⟨S1x8, .f32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x8, .f32⟩
  | .hbm, ⟨26, _⟩ => ⟨S6400000x8, .f32⟩
  | .hbm, ⟨27, _⟩ => ⟨S6400000x8, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Block.lean ====
/-
  One block of the kernel's inner loop, said once. A tile treats 128 points at a time as eight groups of sixteen; for a
  group it computes sixteen table positions, gathers eight values for each, and stores the eight vectors in the tile's
  output rows. Here that group is one program, and the printed body of the block loop is eight of them in a row.
-/
module

public import proofs.«01_k».proof.Defs
public import Idealize.ShloMosaic.Lib.SparseCore.Ops
public import Idealize.ShloMosaic.Lib.SparseCore.Stream
public import Idealize.ShloMosaic.Lib.Tactic
public import proofs.«01_k».proof.Proof.Gen.KernelIdeal
public import proofs.«01_k».proof.Proof.Gen.KernelIdeal.Skeleton

@[expose] public section

noncomputable section

namespace Cert.KernelIdeal.Bessel

open Cert.KernelIdeal Cert.KernelIdeal.Facts₀ Cert.KernelIdeal.Facts Idealize.ShloMosaic Idealize.SL.Sem

variable {F : FTy → Type} [FloatOps F]

/-- A place for sixteen values in a tile's output rows: its first index, and that the sixteen fit. -/
abbrev Spot := {o : Fin 3 → ℕ // ∀ a, o a + S1x1x16.size a ≤ S25x8x128.size a}

/-- A place of sixteen points in a tile's points: its first index, and that the sixteen fit. -/
abbrev Start := {o : Fin 1 → ℕ // ∀ a, o a + S16.size a ≤ S3200.size a}

/-- The positions, in the flat table, of the rows sixteen points fall on: eight times the number of the row, which is the
    point's own (no more than the last point of the grid) over the step, rounded up, and no more than the last row. -/
def slots (top rate : Vec F S16 .f32) (last : IVec S16 32) (x : Vec F S16 .f32) : IVec S16 32 :=
  muli (minsi (addi (fptosi 32 (mulf (minimumf x top) rate))
    (select (cmpf .olt (sitofp .f32 (fptosi 32 (mulf (minimumf x top) rate))) (mulf (minimumf x top) rate))
      (broadcast S16 1#32) (broadcast S16 0#32))) last) (broadcast S16 8#32)

variable {c : Fin τ.nSC} {s : Fin τ.nSub} {α : Type}

/-- Gather the table at sixteen positions, then go on with what was gathered. -/
def gatherThen (tbl : Memref sig .scVector .vmem S40000 .f32) (v : IVec S16 32)
    (k : Vec F S16 .f32 → Prog (TpuEff nD τ sig (Elt F) Λ₀ (.scVector c s)) α) :
    Prog (TpuEff nD τ sig (Elt F) Λ₀ (.scVector c s)) α :=
  .op (TpuEff.assume (k0_chk1 v) (k0_chk1.dec v)) fun r =>
    .op (.load tbl (.whole S40000) (View.loadsAt_whole (View.loads_vmem h_S40000))) fun f =>
      k (loadIdx f ![v] (k0_idx1_inb v r.down))

/-- Put sixteen values at a place of the output rows (whose old values are read and dropped), then go on. -/
def putThen (rows : Memref sig .scVector .vmem S25x8x128 .f32) (o : Spot) (v : Vec F S16 .f32)
    (k : Prog (TpuEff nD τ sig (Elt F) Λ₀ (.scVector c s)) α) :
    Prog (TpuEff nD τ sig (Elt F) Λ₀ (.scVector c s)) α :=
  .op (.load rows (Rect.unit (s := S25x8x128) o.1 S1x1x16.size o.2).toLoadRect (View.loadsAt_vmem h_S1x1x16)) fun _ =>
    .op (.store rows (Rect.unit (s := S25x8x128) o.1 S1x1x16.size o.2) (shapeCast S1x1x16 v shapeCasts_S16_S1x1x16)
      Finset.univ (View.stores_vmem_bits_univ h_S1x1x16 rfl) (.inl rfl)) fun _ => k

/-- One group of sixteen points: load them, gather eight values for each, and store the eight vectors; then go on. -/
def groupThen (tbl : Memref sig .scVector .vmem S40000 .f32) (pts : Memref sig .scVector .vmem S3200 .f32)
    (rows : Memref sig .scVector .vmem S25x8x128 .f32) (top rate : Vec F S16 .f32) (last : IVec S16 32)
    (x : Start) (o0 o1 o2 o3 o4 o5 o6 o7 : Spot)
    (k : Prog (TpuEff nD τ sig (Elt F) Λ₀ (.scVector c s)) α) :
    Prog (TpuEff nD τ sig (Elt F) Λ₀ (.scVector c s)) α :=
  .op (.load pts (Rect.unit (s := S3200) x.1 S16.size x.2).toLoadRect (View.loadsAt_vmem h_S16)) fun p =>
    gatherThen tbl (addi (slots top rate last p) (broadcast S16 0#32)) fun g0 =>
    gatherThen tbl (addi (slots top rate last p) (broadcast S16 1#32)) fun g1 =>
    gatherThen tbl (addi (slots top rate last p) (broadcast S16 2#32)) fun g2 =>
    gatherThen tbl (addi (slots top rate last p) (broadcast S16 3#32)) fun g3 =>
    gatherThen tbl (addi (slots top rate last p) (broadcast S16 4#32)) fun g4 =>
    gatherThen tbl (addi (slots top rate last p) (broadcast S16 5#32)) fun g5 =>
    gatherThen tbl (addi (slots top rate last p) (broadcast S16 6#32)) fun g6 =>
    gatherThen tbl (addi (slots top rate last p) (broadcast S16 7#32)) fun g7 =>
    putThen rows o0 g0 <| putThen rows o1 g1 <| putThen rows o2 g2 <| putThen rows o3 g3 <|
    putThen rows o4 g4 <| putThen rows o5 g5 <| putThen rows o6 g6 <| putThen rows o7 g7 k

/-- One block: its eight groups, in order. -/
def block (tbl : Memref sig .scVector .vmem S40000 .f32) (pts : Memref sig .scVector .vmem S3200 .f32)
    (rows : Memref sig .scVector .vmem S25x8x128 .f32) (top rate : Vec F S16 .f32) (last : IVec S16 32)
    (b : Fin k0_t3_loop.trips) : Prog (TpuEff nD τ sig (Elt F) Λ₀ (.scVector c s)) (BitVec 32) :=
  groupThen tbl pts rows top rate last ⟨_, k0_off3_inb b⟩ ⟨_, k0_off4_inb b⟩ ⟨_, k0_off5_inb b⟩ ⟨_, k0_off6_inb b⟩
    ⟨_, k0_off7_inb b⟩ ⟨_, k0_off8_inb b⟩ ⟨_, k0_off9_inb b⟩ ⟨_, k0_off10_inb b⟩ ⟨_, k0_off11_inb b⟩ <|
  groupThen tbl pts rows top rate last ⟨_, k0_off12_inb b⟩ ⟨_, k0_off13_inb b⟩ ⟨_, k0_off14_inb b⟩ ⟨_, k0_off15_inb b⟩
    ⟨_, k0_off16_inb b⟩ ⟨_, k0_off17_inb b⟩ ⟨_, k0_off18_inb b⟩ ⟨_, k0_off19_inb b⟩ ⟨_, k0_off20_inb b⟩ <|
  groupThen tbl pts rows top rate last ⟨_, k0_off21_inb b⟩ ⟨_, k0_off22_inb b⟩ ⟨_, k0_off23_inb b⟩ ⟨_, k0_off24_inb b⟩
    ⟨_, k0_off25_inb b⟩ ⟨_, k0_off26_inb b⟩ ⟨_, k0_off27_inb b⟩ ⟨_, k0_off28_inb b⟩ ⟨_, k0_off29_inb b⟩ <|
  groupThen tbl pts rows top rate last ⟨_, k0_off30_inb b⟩ ⟨_, k0_off31_inb b⟩ ⟨_, k0_off32_inb b⟩ ⟨_, k0_off33_inb b⟩
    ⟨_, k0_off34_inb b⟩ ⟨_, k0_off35_inb b⟩ ⟨_, k0_off36_inb b⟩ ⟨_, k0_off37_inb b⟩ ⟨_, k0_off38_inb b⟩ <|
  groupThen tbl pts rows top rate last ⟨_, k0_off39_inb b⟩ ⟨_, k0_off40_inb b⟩ ⟨_, k0_off41_inb b⟩ ⟨_, k0_off42_inb b⟩
    ⟨_, k0_off43_inb b⟩ ⟨_, k0_off44_inb b⟩ ⟨_, k0_off45_inb b⟩ ⟨_, k0_off46_inb b⟩ ⟨_, k0_off47_inb b⟩ <|
  groupThen tbl pts rows top rate last ⟨_, k0_off48_inb b⟩ ⟨_, k0_off49_inb b⟩ ⟨_, k0_off50_inb b⟩ ⟨_, k0_off51_inb b⟩
    ⟨_, k0_off52_inb b⟩ ⟨_, k0_off53_inb b⟩ ⟨_, k0_off54_inb b⟩ ⟨_, k0_off55_inb b⟩ ⟨_, k0_off56_inb b⟩ <|
  groupThen tbl pts rows top rate last ⟨_, k0_off57_inb b⟩ ⟨_, k0_off58_inb b⟩ ⟨_, k0_off59_inb b⟩ ⟨_, k0_off60_inb b⟩
    ⟨_, k0_off61_inb b⟩ ⟨_, k0_off62_inb b⟩ ⟨_, k0_off63_inb b⟩ ⟨_, k0_off64_inb b⟩ ⟨_, k0_off65_inb b⟩ <|
  groupThen tbl pts rows top rate last ⟨_, k0_off66_inb b⟩ ⟨_, k0_off67_inb b⟩ ⟨_, k0_off68_inb b⟩ ⟨_, k0_off69_inb b⟩
    ⟨_, k0_off70_inb b⟩ ⟨_, k0_off71_inb b⟩ ⟨_, k0_off72_inb b⟩ ⟨_, k0_off73_inb b⟩ ⟨_, k0_off74_inb b⟩ <|
  .ret 0#32

/-- One chunk: fetch its 3200 points, treat its 25 blocks, and send the rows out. -/
def chunk (i : grid0.Coords) (arg2 : Memref sig .scVector .hbm S6400000 .f32) (arg5 : Memref sig .scVector .hbm S50000x8x128 .f32)
    (arg6 : Memref sig .scVector .vmem S40000 .f32) (arg7 : Memref sig .scVector .vmem S3200 .f32) (harg7 : arg7.IsWhole)
    (arg8 : Memref sig .scVector .vmem S25x8x128 .f32) (harg8 : arg8.IsWhole) (r2 r3 : DmaSems sig S_)
    (top rate : Vec F S16 .f32) (last : IVec S16 32) (k0_t2 : Fin (k0_t2_loop i).trips) :
    Prog (TpuEff nD τ sig (Elt F) Λ₀ (.scVector ((i 0).castLE hcore0) ((i 1).castLE hsub0))) (BitVec 32) := do
  Prog.lift (.enqueueDma (arg2.slice (Rect.unit (s := S6400000) (k0_off2 i k0_t2) S3200.size (k0_off2_inb i k0_t2)) (fun _ => rfl))
    (.here arg7) (.dma r2.sem) (View.wordExact_bits rfl) harg7.wordExact ⟨Or.inl rfl, trivial⟩)
  Prog.lift (.waitDma2 r2.sem (arg2.slice (Rect.unit (s := S6400000) (k0_off2 i k0_t2) S3200.size (k0_off2_inb i k0_t2)) (fun _ => rfl))
    arg7 (View.wordExact_bits rfl) harg7.wordExact)
  let _ ← Scf.Loop.for k0_t3_loop k0_t3_ok 0#32 fun b (_ : BitVec 32) => block arg6 arg7 arg8 top rate last b
  Prog.lift (.enqueueDma arg8 (.here (arg5.slice (Rect.unit (s := S50000x8x128) (k0_off75 i k0_t2) S25x8x128.size (k0_off75_inb i k0_t2)) (fun _ => rfl)))
    (.dma r3.sem) harg8.wordExact (View.wordExact_bits rfl) ⟨Or.inl rfl, trivial⟩)
  Prog.lift (.waitDma2 r3.sem arg8 (arg5.slice (Rect.unit (s := S50000x8x128) (k0_off75 i k0_t2) S25x8x128.size (k0_off75_inb i k0_t2)) (fun _ => rfl))
    harg8.wordExact (View.wordExact_bits rfl))
  pure 0#32

set_option maxRecDepth 100000 in
set_option maxHeartbeats 4000000 in
/-- The tile's task is: the set-up, the chunk loop over `chunk`, and a last loop (over what is left of the chunks, which is
    nothing), whose body does not matter. -/
theorem run_eq (i : grid0.Coords) (arg2 : Memref sig .scVector .hbm S6400000 .f32) (harg2 : arg2.IsWhole) (arg3 : Memref sig .scVector .hbm S40000 .f32) (harg3 : arg3.IsWhole) (arg4 : Memref sig .scVector .hbm S48 .f32) (harg4 : arg4.IsWhole) (arg5 : Memref sig .scVector .hbm S50000x8x128 .f32) (harg5 : arg5.IsWhole) (arg6 : Memref sig .scVector .vmem S40000 .f32) (harg6 : arg6.IsWhole) (arg7 : Memref sig .scVector .vmem S3200 .f32) (harg7 : arg7.IsWhole) (arg8 : Memref sig .scVector .vmem S25x8x128 .f32) (harg8 : arg8.IsWhole) (arg9 : Memref sig .scVector .vmem S48 .f32) (harg9 : arg9.IsWhole) (v34_r0 : DmaSems sig S_) (v34_r1 : DmaSems sig S_) (v40_r2 : DmaSems sig S_) (v40_r3 : DmaSems sig S_) (v40_r4 : DmaSems sig S_) (v40_r5 : DmaSems sig S_) :
    ∃ rest : BitVec 32 → Vec F S16 .f32 → Vec F S16 .f32 → IVec S16 32 → BitVec 32 → BitVec 32 → BitVec 32 → Fin (k0_t4_loop i).trips → BitVec 32 →
        Prog (TpuEff nD τ sig (Elt F) Λ₀ (.scVector ((i 0).castLE hcore0) ((i 1).castLE hsub0))) (BitVec 32),
      cc0_run (F := F) i arg2 harg2 arg3 harg3 arg4 harg4 arg5 harg5 arg6 harg6 arg7 harg7 arg8 harg8 arg9 harg9 v34_r0 v34_r1 v40_r2 v40_r3 v40_r4 v40_r5
      = (do
        let ⟨v1, top, rate, last, v9, v10, v31⟩ : Σ' (_ : BitVec 32) (_ : Vec F S16 .f32) (_ : Vec F S16 .f32) (_ : IVec S16 32) (_ : BitVec 32) (_ : BitVec 32), BitVec 32 ← k0_part31 i arg2 harg2 arg3 harg3 arg4 harg4 arg5 harg5 arg6 harg6 arg7 harg7 arg8 harg8 arg9 harg9 v34_r0 v34_r1 v40_r2 v40_r3 v40_r4 v40_r5
        let w ← Scf.Loop.for (k0_t2_loop i) (k0_t2_ok i) v10 fun k (_ : BitVec 32) =>
          chunk i arg2 arg5 arg6 arg7 harg7 arg8 harg8 v40_r2 v40_r3 top rate last k
        let _ ← Scf.Loop.for (k0_t4_loop i) (k0_t4_ok i) w (rest v1 top rate last v9 v10 v31)
        pure ⟨⟩) := by
  refine ⟨?_, ?_⟩
  rotate_left
  · unfold cc0_run
    refine congrArg (Prog.bind _) (funext fun ⟨v1, top, rate, last, v9, v10, v31⟩ => ?_)
    refine congrArg₂ Prog.bind ?_ ?_
    · refine congrArg (Scf.Loop.for _ _ _) (funext fun k => funext fun r => ?_)
      refine congrArg (Prog.bind _) (funext fun _ => congrArg (Prog.bind _) (funext fun _ => congrArg₂ Prog.bind ?_ rfl))
      refine congrArg (Scf.Loop.for _ _ _) (funext fun b => funext fun r => ?_)
      rfl
    · rfl

end Cert.KernelIdeal.Bessel

end
-- ==== Proof.Values.lean ====
/-
  What the kernel computes, as functions of arrays: the word a point's table position is, the table looked up at it, and
  the rows a tile makes of 3200 points.
-/
module

public import proofs.«01_k».proof.Proof.Block
public import Idealize.ShloMosaic.Lib.Pipeline.Value

@[expose] public section

noncomputable section

namespace Cert.KernelIdeal.Bessel

open Cert.KernelIdeal Cert.KernelIdeal.Facts₀ Cert.KernelIdeal.Facts Idealize.ShloMosaic Idealize.SL.Sem

variable {F : FTy → Type} [FloatOps F]

/-- Index `n` of an array of 40000, of 3200, of 48 and of sixteen, reduced when it is beyond the end. -/
abbrev at40000 (n : ℕ) : S40000.Idx := Shape.ofLane (d := ![40000]) ⟨n % 40000, Nat.mod_lt _ (by decide)⟩
abbrev at3200 (n : ℕ) : S3200.Idx := Shape.ofLane (d := ![3200]) ⟨n % 3200, Nat.mod_lt _ (by decide)⟩
abbrev at48 (n : ℕ) : S48.Idx := Shape.ofLane (d := ![48]) ⟨n % 48, Nat.mod_lt _ (by decide)⟩
abbrev at16 (n : ℕ) : S16.Idx := Shape.ofLane (d := ![16]) ⟨n % 16, Nat.mod_lt _ (by decide)⟩

/-- Every index of a one-dimensional array is the index of its number. -/
theorem eq_at40000 (j : S40000.Idx) : j = at40000 (j 0).val := by
  funext a; fin_cases a; exact Fin.ext (Nat.mod_eq_of_lt (j 0).isLt).symm
theorem eq_at3200 (j : S3200.Idx) : j = at3200 (j 0).val := by
  funext a; fin_cases a; exact Fin.ext (Nat.mod_eq_of_lt (j 0).isLt).symm
theorem eq_at48 (j : S48.Idx) : j = at48 (j 0).val := by
  funext a; fin_cases a; exact Fin.ext (Nat.mod_eq_of_lt (j 0).isLt).symm
theorem eq_at16 (j : S16.Idx) : j = at16 (j 0).val := by
  funext a; fin_cases a; exact Fin.ext (Nat.mod_eq_of_lt (j 0).isLt).symm

/-- A point's number of steps from the start of the grid: the point (no more than `t`, the last one of the grid) times `r`,
    the steps per unit. -/
def stepsF (t r x : F .f32) : F .f32 := FloatOps.mulf (FloatOps.minimumf x t) r

/-- The row a number of steps falls on: rounded up, and no more than the last row. -/
def rowOf (p : F .f32) : BitVec 32 :=
  IntOp.minsi (IntOp.addi (FloatOps.fptosi 32 p)
    (Scalar.select (FloatOps.cmpf .olt (FloatOps.sitofp .f32 (FloatOps.fptosi 32 p)) p) 1#32 0#32)) 4999#32

/-- A point's position in the flat table: eight times its row. -/
def slotW (t r x : F .f32) : BitVec 32 := IntOp.muli (rowOf (stepsF t r x)) 8#32

/-- Sixteen positions are sixteen times one point's. -/
theorem slots_apply (t r x : Vec F S16 .f32) (l : S16.Idx) :
    slots t r (broadcast S16 4999#32) x l = slotW (t l) (r l) (x l) := by
  unfold slots slotW rowOf stepsF; rfl

/-- The table at a natural number. -/
def look (f : Vec F S40000 .f32) (n : ℕ) : F .f32 := f (at40000 n)

/-- A point whose eight values lie inside the table. -/
def Inside (t r x : F .f32) : Prop := (slotW t r x).toNat + 7 < 40000

/-- The eight positions of a point that lies inside the table do not wrap. -/
theorem slot_add {t r x : F .f32} (h : Inside t r x) (i : ℕ) (hi : i < 8) :
    (slotW t r x + BitVec.ofNat 32 i).toNat = (slotW t r x).toNat + i := by
  have h : (slotW t r x).toNat + 7 < 40000 := h
  rw [BitVec.toNat_add, BitVec.toNat_ofNat]
  omega

/-- The rows a tile makes of 3200 points: row `j 0`, value `j 1`, point `j 2` is the table at the position of point
    `128 · j 0 + j 2`, moved by `j 1`; the last grid point and the rate are those of the point's lane. -/
def rowsOf (tbl : Vec F S40000 .f32) (top rate : Vec F S16 .f32) (p : Vec F S3200 .f32) : Vec F S25x8x128 .f32 := fun j =>
  look tbl ((slotW (top (at16 (j 2).val)) (rate (at16 (j 2).val)) (p (at3200 (128 * (j 0).val + (j 2).val)))).toNat + (j 1).val)

/-- Sixteen values gathered, one by one. -/
theorem loadIdx_slots (tbl : Vec F S40000 .f32) (t r x : Vec F S16 .f32) (i : ℕ) (hi : i < 8)
    (hin : ∀ l, Inside (t l) (r l) (x l))
    (h : ∀ a y, ((![addi (slots t r (broadcast S16 4999#32) x) (broadcast S16 (BitVec.ofNat 32 i))] : Fin 1 → IVec S16 32) a y).toNat < S40000.size a)
    (l : S16.Idx) :
    loadIdx tbl ![addi (slots t r (broadcast S16 4999#32) x) (broadcast S16 (BitVec.ofNat 32 i))] h l
      = look tbl ((slotW (t l) (r l) (x l)).toNat + i) := by
  have e : (addi (slots t r (broadcast S16 4999#32) x) (broadcast S16 (BitVec.ofNat 32 i)) l).toNat
      = (slotW (t l) (r l) (x l)).toNat + i := slot_add (hin l) i hi
  have hb : (slotW (t l) (r l) (x l)).toNat + 7 < 40000 := hin l
  refine congrArg tbl (funext fun a => ?_)
  fin_cases a
  refine Fin.ext (e.trans (Nat.mod_eq_of_lt ?_).symm)
  omega

/-- The side condition of a gather holds of points that lie inside the table. -/
theorem chk_slots (t r x : Vec F S16 .f32) (i : ℕ) (hi : i < 8) (hin : ∀ l, Inside (t l) (r l) (x l)) :
    k0_chk1 (addi (slots t r (broadcast S16 4999#32) x) (broadcast S16 (BitVec.ofNat 32 i))) := by
  intro a y
  fin_cases a
  have e : (addi (slots t r (broadcast S16 4999#32) x) (broadcast S16 (BitVec.ofNat 32 i)) y).toNat
      = (slotW (t y) (r y) (x y)).toNat + i := slot_add (hin y) i hi
  have hb : (slotW (t y) (r y) (x y)).toNat + 7 < 40000 := hin y
  show (addi (slots t r (broadcast S16 4999#32) x) (broadcast S16 (BitVec.ofNat 32 i)) y).toNat < 40000
  omega

/-- Sixteen values laid in a `[1, 1, 16]` array. -/
theorem cast_lane (v : Vec F S16 .f32) (y : S1x1x16.Idx) :
    shapeCast S1x1x16 v shapeCasts_S16_S1x1x16 y = v (at16 (y 2).val) := by
  refine shapeCast_apply v shapeCasts_S16_S1x1x16 y _ ?_
  rw [Shape.rowMajor_val_one, Shape.rowMajor_val_three]
  have h0 : (y 0).val < 1 := (y 0).isLt
  have h1 : (y 1).val < 1 := (y 1).isLt
  have h2 : (y 2).val < 16 := (y 2).isLt
  show (y 2).val % 16 = ((y 0).val * 1 + (y 1).val) * 16 + (y 2).val
  omega

/-! ## The whole output -/

/-- The parameters' three vectors of sixteen: the last grid point, the points per unit, and the weights twice over. -/
def topOf (q : Vec F S48 .f32) : Vec F S16 .f32 := fun l => q (at48 (l 0).val)
def rateOf (q : Vec F S48 .f32) : Vec F S16 .f32 := fun l => q (at48 (16 + (l 0).val))
def wgtOf (q : Vec F S48 .f32) : Vec F S16 .f32 := fun l => q (at48 (32 + (l 0).val))

/-- The flat table with its weights multiplied in. -/
def scaled (t : Vec F S40000 .f32) (q : Vec F S48 .f32) : Vec F S40000 .f32 := fun j =>
  FloatOps.mulf (t j) (wgtOf q (at16 (j 0).val))

/-- Index `n` of the points, reduced when it is beyond the end. -/
abbrev at6400000 (n : ℕ) : S6400000.Idx := Shape.ofLane (d := ![6400000]) ⟨n % 6400000, Nat.mod_lt _ (by decide)⟩

/-- Every index of the points is the index of its number. -/
theorem eq_at6400000 (j : S6400000.Idx) : j = at6400000 (j 0).val := by
  funext a; fin_cases a; exact Fin.ext (Nat.mod_eq_of_lt (j 0).isLt).symm

/-- The tiles' output: value `j 1` of point `128 · j 0 + j 2` is the scaled table at the point's position, moved by `j 1`. -/
def outOf (x : Vec F S6400000 .f32) (t : Vec F S40000 .f32) (q : Vec F S48 .f32) : Vec F S50000x8x128 .f32 := fun j =>
  look (scaled t q) ((slotW (topOf q (at16 (j 2).val)) (rateOf q (at16 (j 2).val))
    (x (at6400000 (128 * (j 0).val + (j 2).val)))).toNat + (j 1).val)

/-- Sixteen parameters read from place `n` on. -/
theorem read_params (q : Vec F S48 .f32) {n : ℕ} (hn : n + 16 ≤ 48) (inb : ∀ a, (![n] : Fin 1 → ℕ) a + S16.size a ≤ S48.size a) (l : S16.Idx) :
    q ((Rect.unit (s := S48) ![n] S16.size inb).emb l) = q (at48 (n + (l 0).val)) := by
  refine congrArg q (funext fun a => ?_)
  fin_cases a
  refine Fin.ext ?_
  have hl : (l 0).val < 16 := (l 0).isLt
  show n + 1 * (l 0).val = (n + (l 0).val) % 48
  omega

/-- One trip of the scaling loop: sixteen entries from `16 · b` on come to be scaled, the others stay. -/
theorem scale_step {t f : Vec F S40000 .f32} {q : Vec F S48 .f32} {o : Fin 1 → ℕ} {b : ℕ} (ho : o = ![16 * b])
    (inb : ∀ a, o a + S16.size a ≤ S40000.size a) {v : Vec F S16 .f32}
    (hv : ∀ l, v l = FloatOps.mulf (f ((Rect.unit (s := S40000) o S16.size inb).emb l)) (wgtOf q l))
    (hlo : ∀ j : S40000.Idx, (j 0).val < 16 * b → f j = scaled t q j) (hhi : ∀ j : S40000.Idx, 16 * b ≤ (j 0).val → f j = t j) :
    (∀ j : S40000.Idx, (j 0).val < 16 * (b + 1) → updateSlice f v o ⟨rfl, inb⟩ j = scaled t q j)
      ∧ ∀ j : S40000.Idx, 16 * (b + 1) ≤ (j 0).val → updateSlice f v o ⟨rfl, inb⟩ j = t j := by
  have e : o 0 = 16 * b := by rw [ho]; rfl
  constructor <;> intro j hj <;> unfold updateSlice <;> split
  · next hin =>
    have h0 : o 0 ≤ (j 0).val ∧ (j 0).val < o 0 + 16 := hin 0
    rw [hv]
    unfold scaled
    refine congrArg₂ FloatOps.mulf ?_ ?_
    · refine (congrArg f (funext fun a => ?_)).trans (hhi j (by omega))
      fin_cases a
      refine Fin.ext ?_
      show o 0 + 1 * ((j 0).val - o 0) = (j 0).val
      omega
    · refine congrArg (wgtOf q) (funext fun a => ?_)
      fin_cases a
      refine Fin.ext ?_
      show (j 0).val - o 0 = (j 0).val % 16
      omega
  · next hin =>
    refine hlo j (Nat.lt_of_not_le fun h => hin fun a => ?_)
    fin_cases a
    show o 0 ≤ (j 0).val ∧ (j 0).val < o 0 + 16
    omega
  · next hin =>
    have h0 : o 0 ≤ (j 0).val ∧ (j 0).val < o 0 + 16 := hin 0
    omega
  · exact hhi j (by omega)

end Cert.KernelIdeal.Bessel

end
-- ==== Proof.Group.lean ====
/-
  A block of the kernel's inner loop as a step of separation logic. Holding the table, the points and the rows of its
  tile, a block leaves the table and the points as they are and adds its 128 points' values to the rows.
-/
module

public import proofs.«01_k».proof.Proof.Values
public import Idealize.ShloMosaic.Lib.SparseCore.Quiescent
public import Idealize.ShloMosaic.Lib.StableHlo.Run
public import Idealize.ShloMosaic.Lib.Pipeline.Kit

@[expose] public section

noncomputable section

namespace Cert.KernelIdeal.Bessel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## What is written at a place of the rows -/

section Pure

variable {F : FTy → Type} [FloatOps F]

/-- The rows agree with `H` on a set of indices; sixteen of `H`'s values written at a place make them agree there too. -/
theorem put_agree {H f : Vec F S25x8x128 .f32} {A : S25x8x128.Idx → Prop} (o : Spot) {b i g : ℕ} (ho : o.1 = ![b, i, 16 * g])
    {v : Vec F S16 .f32}
    (hv : ∀ j : S25x8x128.Idx, (j 0).val = b → (j 1).val = i → (j 2).val / 16 = g → v (at16 (j 2).val) = H j)
    (hf : ∀ j, A j → f j = H j) (j : S25x8x128.Idx) (hj : A j ∨ ((j 0).val = b ∧ (j 1).val = i ∧ (j 2).val / 16 = g)) :
    updateSlice f (shapeCast S1x1x16 v shapeCasts_S16_S1x1x16) o.1 ⟨rfl, o.2⟩ j = H j := by
  unfold updateSlice
  split
  · next hin =>
    have e0 : o.1 0 = b := by rw [ho]; rfl
    have e1 : o.1 1 = i := by rw [ho]; rfl
    have e : o.1 2 = 16 * g := by rw [ho]; rfl
    have h0 : o.1 0 ≤ (j 0).val ∧ (j 0).val < o.1 0 + 1 := hin 0
    have h1 : o.1 1 ≤ (j 1).val ∧ (j 1).val < o.1 1 + 1 := hin 1
    have h2 : o.1 2 ≤ (j 2).val ∧ (j 2).val < o.1 2 + 16 := hin 2
    rw [cast_lane, ← hv j (by omega) (by omega) (by omega)]
    refine congrArg v (funext fun a => ?_)
    fin_cases a
    refine Fin.ext ?_
    show ((j 2).val - o.1 2) % 16 = (j 2).val % 16
    rw [e]; omega
  · next hin =>
    rcases hj with hj | ⟨h0, h1, h2⟩
    · exact hf j hj
    · refine absurd (fun a => ?_) hin
      have e := congrFun ho a
      fin_cases a
      · have e : o.1 0 = b := e
        show o.1 0 ≤ (j 0).val ∧ (j 0).val < o.1 0 + 1; omega
      · have e : o.1 1 = i := e
        show o.1 1 ≤ (j 1).val ∧ (j 1).val < o.1 1 + 1; omega
      · have e : o.1 2 = 16 * g := e
        show o.1 2 ≤ (j 2).val ∧ (j 2).val < o.1 2 + 16; omega

/-- Sixteen points read from place `n` on. -/
theorem read_points (p : Vec F S3200 .f32) (x : Start) {n : ℕ} (hx : x.1 = ![n]) (l : S16.Idx) :
    p ((Rect.unit (s := S3200) x.1 S16.size x.2).emb l) = p (at3200 (n + (l 0).val)) := by
  refine congrArg p (funext fun a => ?_)
  fin_cases a
  refine Fin.ext ?_
  have hb : n + 16 ≤ 3200 := by
    have h := x.2 0
    rw [hx] at h; exact h
  have hl : (l 0).val < 16 := (l 0).isLt
  have e : x.1 0 = n := by rw [hx]; rfl
  show x.1 0 + 1 * (l 0).val = (n + (l 0).val) % 3200
  rw [e]; omega

end Pure

/-! ## The steps -/

variable {F : FTy → Type}

/-- The ghost state: the rounds of the launch's handshakes, and the counters of the transfers. -/
abbrev UH : Type := URounds (GSem nD τ sig) ℕ
abbrev UU : Type := UH × Counters

local notation "𝕄" => MT nD τ sig (HIx 1) (Elt F) ℕ UU ℕ

abbrev 𝒱₀ : Variants := Variants.none

variable [FloatOps F]

/-- A tile's own buffers: the table, the points, the rows, the parameters. -/
abbrev tblV : Memref sig .scVector .vmem S40000 .f32 := Memref.whole cc0_scratch0
abbrev ptsV : Memref sig .scVector .vmem S3200 .f32 := Memref.whole cc0_scratch1
abbrev rowsV : Memref sig .scVector .vmem S25x8x128 .f32 := Memref.whole cc0_scratch2
abbrev parV : Memref sig .scVector .vmem S48 .f32 := Memref.whole cc0_scratch3

variable (d : Dev nD) (c : Fin τ.nSC) (s : Fin τ.nSub)

/-- The table, the points and the rows held whole by a tile. -/
abbrev tblPts (f : Vec F S40000 .f32) : sProp 𝕄 := tblV.view.loc (V d c s) ↦{fullShare} f
abbrev ptsPts (f : Vec F S3200 .f32) : sProp 𝕄 := ptsV.view.loc (V d c s) ↦{fullShare} f
abbrev rowsPts (f : Vec F S25x8x128 .f32) : sProp 𝕄 := rowsV.view.loc (V d c s) ↦{fullShare} f

/-- The rows held whole, agreeing with `H` on a set of indices. -/
def rowsAgree (H : Vec F S25x8x128 .f32) (A : S25x8x128.Idx → Prop) : sProp 𝕄 :=
  iprop(∃ f, ⌜∀ j, A j → f j = H j⌝ ∗ rowsPts d c s f)

/-- Rows that agree on a set agree on every part of it. -/
theorem rowsAgree_mono {H : Vec F S25x8x128 .f32} {A B : S25x8x128.Idx → Prop} (h : ∀ j, B j → A j) :
    rowsAgree d c s H A ⊢ rowsAgree d c s H B := by
  unfold rowsAgree
  iintro ⟨%f, %hf, H⟩
  iexists f; isplitr
  · ipureintro; exact fun j hj => hf j (h j hj)
  · iexact H

variable {α : Type} {Q : α → sProp (MT nD τ sig (HIx 1) (Elt F) ℕ UU ℕ)}

/-- A gather whose positions lie inside the table goes on with the gathered values. -/
theorem wp_gatherThen {f : Vec F S40000 .f32} {v : IVec S16 32}
    {k : Vec F S16 .f32 → Prog (TpuEff nD τ sig (Elt F) Λ₀ (.scVector c s)) α} (hv : k0_chk1 v) :
    tblPts d c s f ⊢ iprop((tblPts d c s f -∗ wp frame (wpE (defs₀ (F := F)) 𝒱₀ (V d c s) none) Set.univ (k (loadIdx f ![v] (k0_idx1_inb v hv))) Q)
      -∗ wp frame (wpE (defs₀ (F := F)) 𝒱₀ (V d c s) none) Set.univ (gatherThen tblV v k) Q) := by
  unfold gatherThen
  iintro Ht Hk
  rw [wp_assume_of _ _ _ _ hv]
  iapply (wp_load_whole 𝒱₀ (V d c s) none Set.univ) $$ Ht
  iexact Hk

/-- Sixteen of `H`'s values put at a place: the rows agree with `H` there too. -/
theorem wp_putThen {H : Vec F S25x8x128 .f32} {A : S25x8x128.Idx → Prop} (o : Spot) {b i g : ℕ} (ho : o.1 = ![b, i, 16 * g])
    {v : Vec F S16 .f32}
    (hv : ∀ j : S25x8x128.Idx, (j 0).val = b → (j 1).val = i → (j 2).val / 16 = g → v (at16 (j 2).val) = H j)
    {k : Prog (TpuEff nD τ sig (Elt F) Λ₀ (.scVector c s)) α} :
    rowsAgree d c s H A ⊢ iprop((rowsAgree d c s H (fun j => A j ∨ ((j 0).val = b ∧ (j 1).val = i ∧ (j 2).val / 16 = g))
        -∗ wp frame (wpE (defs₀ (F := F)) 𝒱₀ (V d c s) none) Set.univ k Q)
      -∗ wp frame (wpE (defs₀ (F := F)) 𝒱₀ (V d c s) none) Set.univ (putThen rowsV o v k) Q) := by
  unfold putThen rowsAgree
  iintro ⟨%f, %hf, Hr⟩ Hk
  iapply (wp_load 𝒱₀ (V d c s) none Set.univ (m := rowsV) (S := Finset.univ) (Finset.subset_univ _)) $$ Hr
  iintro Hr
  iapply (wp_store 𝒱₀ (V d c s) none Set.univ (m := rowsV) (r := Rect.unit (s := S25x8x128) o.1 S1x1x16.size o.2)
    (Mk := Finset.univ) (S := Finset.univ) (Finset.subset_univ _)) $$ Hr
  iintro Hr
  iapply Hk
  iexists _
  isplitr
  rotate_left
  · iexact Hr
  · ipureintro
    intro j hj
    refine (congrFun (View.write_whole_slice_unit cc0_scratch2 o.1 S1x1x16.size o.2 f _) j).trans ?_
    exact put_agree o ho hv hf j hj

/-- The lanes of a group's sixteen points, and what is gathered for them, as values of `rowsOf`. -/
theorem gathered {f : Vec F S40000 .f32} {top rate : Vec F S16 .f32} {p : Vec F S3200 .f32}
    (hin : ∀ n l, Inside (top l) (rate l) (p (at3200 n))) (x : Start) {b g : ℕ} (hx : x.1 = ![128 * b + 16 * g]) {i : ℕ} (hi : i < 8)
    (h) (j : S25x8x128.Idx) (h0 : (j 0).val = b) (h1 : (j 1).val = i) (h2 : (j 2).val / 16 = g) :
    loadIdx f ![addi (slots top rate (broadcast S16 4999#32) (fun l => p ((Rect.unit (s := S3200) x.1 S16.size x.2).emb l)))
      (broadcast S16 (BitVec.ofNat 32 i))] h (at16 (j 2).val) = rowsOf f top rate p j := by
  rw [loadIdx_slots f top rate _ i hi (fun l => by rw [read_points p x hx]; exact hin _ _) h, read_points p x hx]
  unfold rowsOf
  subst h0 h1
  have e : 128 * (j 0).val + 16 * g + (at16 (j 2).val 0).val = 128 * (j 0).val + (j 2).val := by
    show 128 * (j 0).val + 16 * g + (j 2).val % 16 = _
    omega
  rw [e]

/-- One group of sixteen points: the rows come to agree with the values of the tile's points on the group's lanes. -/
theorem wp_groupThen {f : Vec F S40000 .f32} {top rate : Vec F S16 .f32} {p : Vec F S3200 .f32}
    (hin : ∀ n l, Inside (top l) (rate l) (p (at3200 n))) {A : S25x8x128.Idx → Prop} {b g : ℕ}
    {x : Start} {o0 o1 o2 o3 o4 o5 o6 o7 : Spot} (hx : x.1 = ![128 * b + 16 * g])
    (h0 : o0.1 = ![b, 0, 16 * g]) (h1 : o1.1 = ![b, 1, 16 * g]) (h2 : o2.1 = ![b, 2, 16 * g]) (h3 : o3.1 = ![b, 3, 16 * g])
    (h4 : o4.1 = ![b, 4, 16 * g]) (h5 : o5.1 = ![b, 5, 16 * g]) (h6 : o6.1 = ![b, 6, 16 * g]) (h7 : o7.1 = ![b, 7, 16 * g])
    {k : Prog (TpuEff nD τ sig (Elt F) Λ₀ (.scVector c s)) α} :
    iprop(tblPts d c s f ∗ ptsPts d c s p ∗ rowsAgree d c s (rowsOf f top rate p) A)
      ⊢ iprop((iprop(tblPts d c s f ∗ ptsPts d c s p
            ∗ rowsAgree d c s (rowsOf f top rate p) (fun j => A j ∨ ((j 0).val = b ∧ (j 2).val / 16 = g)))
          -∗ wp frame (wpE (defs₀ (F := F)) 𝒱₀ (V d c s) none) Set.univ k Q)
        -∗ wp frame (wpE (defs₀ (F := F)) 𝒱₀ (V d c s) none) Set.univ
          (groupThen tblV ptsV rowsV top rate (broadcast S16 4999#32) x o0 o1 o2 o3 o4 o5 o6 o7 k) Q) := by
  unfold groupThen
  iintro ⟨Ht, Hp, Hr⟩ Hk
  iapply (wp_load 𝒱₀ (V d c s) none Set.univ (m := ptsV) (S := Finset.univ) (Finset.subset_univ _)) $$ Hp
  iintro Hp
  have hc : ∀ i < 8, k0_chk1 (addi (slots top rate (broadcast S16 4999#32) (fun l => p ((Rect.unit (s := S3200) x.1 S16.size x.2).emb l)))
      (broadcast S16 (BitVec.ofNat 32 i))) := fun i hi =>
    chk_slots top rate _ i hi fun l => by rw [read_points p x hx]; exact hin _ _
  have hg := fun i (hi : i < 8) => gathered (f := f) hin x hx hi (k0_idx1_inb _ (hc i hi))
  iapply (wp_gatherThen d c s (hc 0 (by decide))) $$ Ht; iintro Ht
  iapply (wp_gatherThen d c s (hc 1 (by decide))) $$ Ht; iintro Ht
  iapply (wp_gatherThen d c s (hc 2 (by decide))) $$ Ht; iintro Ht
  iapply (wp_gatherThen d c s (hc 3 (by decide))) $$ Ht; iintro Ht
  iapply (wp_gatherThen d c s (hc 4 (by decide))) $$ Ht; iintro Ht
  iapply (wp_gatherThen d c s (hc 5 (by decide))) $$ Ht; iintro Ht
  iapply (wp_gatherThen d c s (hc 6 (by decide))) $$ Ht; iintro Ht
  iapply (wp_gatherThen d c s (hc 7 (by decide))) $$ Ht; iintro Ht
  iapply (wp_putThen d c s o0 h0 (hg 0 (by decide))) $$ Hr; iintro Hr
  iapply (wp_putThen d c s o1 h1 (hg 1 (by decide))) $$ Hr; iintro Hr
  iapply (wp_putThen d c s o2 h2 (hg 2 (by decide))) $$ Hr; iintro Hr
  iapply (wp_putThen d c s o3 h3 (hg 3 (by decide))) $$ Hr; iintro Hr
  iapply (wp_putThen d c s o4 h4 (hg 4 (by decide))) $$ Hr; iintro Hr
  iapply (wp_putThen d c s o5 h5 (hg 5 (by decide))) $$ Hr; iintro Hr
  iapply (wp_putThen d c s o6 h6 (hg 6 (by decide))) $$ Hr; iintro Hr
  iapply (wp_putThen d c s o7 h7 (hg 7 (by decide))) $$ Hr; iintro Hr
  iapply Hk
  isplitl [Ht]; · iexact Ht
  isplitl [Hp]; · iexact Hp
  iapply (rowsAgree_mono d c s ?_) $$ Hr
  rintro j (hj | ⟨hb, hgj⟩)
  · simp only [hj, true_or]
  · have h8 : (j 1).val < 8 := (j 1).isLt
    simp only [hb, hgj, true_and, and_true, or_assoc]
    right; omega

/-- One block: the rows come to agree with the values of the tile's points on the block's row. -/
theorem wp_block {f : Vec F S40000 .f32} {top rate : Vec F S16 .f32} {p : Vec F S3200 .f32}
    (hin : ∀ n l, Inside (top l) (rate l) (p (at3200 n))) (b : Fin k0_t3_loop.trips) {Q : BitVec 32 → sProp (MT nD τ sig (HIx 1) (Elt F) ℕ UU ℕ)} :
    iprop(tblPts d c s f ∗ ptsPts d c s p ∗ rowsAgree d c s (rowsOf f top rate p) (fun j => (j 0).val < b.val))
      ⊢ iprop((iprop(tblPts d c s f ∗ ptsPts d c s p ∗ rowsAgree d c s (rowsOf f top rate p) (fun j => (j 0).val < b.val + 1))
          -∗ Q 0#32)
        -∗ wp frame (wpE (defs₀ (F := F)) 𝒱₀ (V d c s) none) Set.univ (block tblV ptsV rowsV top rate (broadcast S16 4999#32) b) Q) := by
  unfold block
  iintro H Hk
  iapply (wp_groupThen d c s hin (b := b.val) (g := 0) (k0_off3_eq b) (k0_off4_eq b) (k0_off5_eq b) (k0_off6_eq b)
    (k0_off7_eq b) (k0_off8_eq b) (k0_off9_eq b) (k0_off10_eq b) (k0_off11_eq b)) $$ H; iintro H
  iapply (wp_groupThen d c s hin (b := b.val) (g := 1) (k0_off12_eq b) (k0_off13_eq b) (k0_off14_eq b) (k0_off15_eq b)
    (k0_off16_eq b) (k0_off17_eq b) (k0_off18_eq b) (k0_off19_eq b) (k0_off20_eq b)) $$ H; iintro H
  iapply (wp_groupThen d c s hin (b := b.val) (g := 2) (k0_off21_eq b) (k0_off22_eq b) (k0_off23_eq b) (k0_off24_eq b)
    (k0_off25_eq b) (k0_off26_eq b) (k0_off27_eq b) (k0_off28_eq b) (k0_off29_eq b)) $$ H; iintro H
  iapply (wp_groupThen d c s hin (b := b.val) (g := 3) (k0_off30_eq b) (k0_off31_eq b) (k0_off32_eq b) (k0_off33_eq b)
    (k0_off34_eq b) (k0_off35_eq b) (k0_off36_eq b) (k0_off37_eq b) (k0_off38_eq b)) $$ H; iintro H
  iapply (wp_groupThen d c s hin (b := b.val) (g := 4) (k0_off39_eq b) (k0_off40_eq b) (k0_off41_eq b) (k0_off42_eq b)
    (k0_off43_eq b) (k0_off44_eq b) (k0_off45_eq b) (k0_off46_eq b) (k0_off47_eq b)) $$ H; iintro H
  iapply (wp_groupThen d c s hin (b := b.val) (g := 5) (k0_off48_eq b) (k0_off49_eq b) (k0_off50_eq b) (k0_off51_eq b)
    (k0_off52_eq b) (k0_off53_eq b) (k0_off54_eq b) (k0_off55_eq b) (k0_off56_eq b)) $$ H; iintro H
  iapply (wp_groupThen d c s hin (b := b.val) (g := 6) (k0_off57_eq b) (k0_off58_eq b) (k0_off59_eq b) (k0_off60_eq b)
    (k0_off61_eq b) (k0_off62_eq b) (k0_off63_eq b) (k0_off64_eq b) (k0_off65_eq b)) $$ H; iintro H
  iapply (wp_groupThen d c s hin (b := b.val) (g := 7) (k0_off66_eq b) (k0_off67_eq b) (k0_off68_eq b) (k0_off69_eq b)
    (k0_off70_eq b) (k0_off71_eq b) (k0_off72_eq b) (k0_off73_eq b) (k0_off74_eq b)) $$ H; iintro ⟨Ht, Hp, Hr⟩
  rw [wp_ret]; imodintro
  iapply Hk
  isplitl [Ht]; · iexact Ht
  isplitl [Hp]; · iexact Hp
  iapply (rowsAgree_mono d c s ?_) $$ Hr
  intro j hj
  have h2 : (j 2).val < 128 := (j 2).isLt
  omega

end Cert.KernelIdeal.Bessel

end
-- ==== Proof.Chunk.lean ====
/-
  A chunk of 3200 points as a step of separation logic: the tile fetches its points, treats its 25 blocks, and sends the
  rows to the chunk's place in the output.
-/
module

public import proofs.«01_k».proof.Proof.Group

@[expose] public section

noncomputable section

namespace Cert.KernelIdeal.Bessel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The arrays in the device's memory as a tile addresses them: the points, the flat table, the parameters, the output. -/
abbrev xV : Memref sig .scVector .hbm S6400000 .f32 := Memref.whole main_arg0_scv
abbrev tV : Memref sig .scVector .hbm S40000 .f32 := Memref.whole main_v8_scv
abbrev qV : Memref sig .scVector .hbm S48 .f32 := Memref.whole main_v7_scv
abbrev oV : Memref sig .scVector .hbm S50000x8x128 .f32 := Memref.whole main_v9_scv

variable [FloatOps F]

/-- A tile by its coordinates: its core, its place on the core, its thread. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

section

variable (d : Dev nD) (L : grid0.Coords)

/-- The points of chunk `k` of the tile, and the chunk's place in the output. -/
abbrev xCh (k : Fin (k0_t2_loop L).trips) : Memref sig .scVector .hbm S3200 .f32 :=
  xV.slice (Rect.unit (s := S6400000) (k0_off2 L k) S3200.size (k0_off2_inb L k)) (fun _ => rfl)
abbrev oCh (k : Fin (k0_t2_loop L).trips) : Memref sig .scVector .hbm S25x8x128 .f32 :=
  oV.slice (Rect.unit (s := S50000x8x128) (k0_off75 L k) S25x8x128.size (k0_off75_inb L k)) (fun _ => rfl)

/-- The chunk's points as an array of 3200. -/
abbrev ptsOf (x : Vec F S6400000 .f32) (k : Fin (k0_t2_loop L).trips) : Vec F S3200 .f32 :=
  (xCh L k).view.read (Elt F) x

/-- The block loop's invariant: the rows agree with the chunk's values on the blocks done. -/
def invBlock (f : Vec F S40000 .f32) (top rate : Vec F S16 .f32) (p : Vec F S3200 .f32) (n : ℕ) (_ : BitVec 32) : sProp 𝕄 :=
  iprop(tblPts d (cV L) (jV L) f ∗ ptsPts d (cV L) (jV L) p ∗ rowsAgree d (cV L) (jV L) (rowsOf f top rate p) (fun j => (j 0).val < n))

theorem wp_chunk {x : Vec F S6400000 .f32} {q : PosShare TreeShare} {f : Vec F S40000 .f32} {top rate : Vec F S16 .f32}
    (k : Fin (k0_t2_loop L).trips)
    (hin : ∀ n l, Inside (top l) (rate l) (ptsOf L x k (at3200 n)))
    (O : CellTallies nD τ sig (HIx 1)) (W : Waits sig (HIx 1))
    (p0 : Vec F S3200 .f32) (r0 : Vec F S25x8x128 .f32) (o0 : Vec F S50000x8x128 .f32) :
    (iprop(Transfers.MayWaits (VT d L) (default : HIx 1) O
        ∗ (xV.view.loc (VT d L) ↦{q} x)
        ∗ tblPts d (cV L) (jV L) f ∗ ptsPts d (cV L) (jV L) p0 ∗ rowsPts d (cV L) (jV L) r0
        ∗ ((oCh L k).view.loc (VT d L) ↦[(oCh L k).view.set]{fullShare} o0)
        ∗ semVal (VT d L, SemLoc.dma cc0_scoped2.sem) 0 ∗ semVal (VT d L, SemLoc.dma cc0_scoped3.sem) 0
        ∗ owes (VT d L) O W) : sProp 𝕄)
      ⊢ wp frame (wpE (defs₀ (F := F)) 𝒱₀ (VT d L) none) Set.univ
          (chunk L xV oV tblV ptsV (Memref.isWhole_whole _) rowsV (Memref.isWhole_whole _) cc0_scoped2 cc0_scoped3 top rate (broadcast S16 4999#32) k)
          fun _ => iprop((xV.view.loc (VT d L) ↦{q} x)
        ∗ tblPts d (cV L) (jV L) f ∗ (∃ p, ptsPts d (cV L) (jV L) p) ∗ (∃ r, rowsPts d (cV L) (jV L) r)
        ∗ (∃ o, ⌜(oCh L k).view.read (Elt F) o = rowsOf f top rate (ptsOf L x k)⌝ ∗ ((oCh L k).view.loc (VT d L) ↦[(oCh L k).view.set]{fullShare} o))
        ∗ semVal (VT d L, SemLoc.dma cc0_scoped2.sem) 0 ∗ semVal (VT d L, SemLoc.dma cc0_scoped3.sem) 0
        ∗ owes (VT d L) O (insert (SemLoc.dma cc0_scoped3.sem, (default : HIx 1)) (insert (SemLoc.dma cc0_scoped2.sem, (default : HIx 1)) W))) := by
  iintro ⟨#Hmw, Hx, Ht, Hp, Hr, Ho, Hc2, Hc3, HO⟩
  unfold chunk
  sl_exec
  have hp : View.write (Elt F) ptsV.view p0 (wp_chunk.sl.dma0 (x := x) L k) Finset.univ = ptsOf L x k :=
    View.write_whole_univ (Val := Elt F) cc0_scratch1 p0 (ptsOf L x k)
  rw [hp]
  sl_for (invBlock d L f top rate (ptsOf L x k)) $$ [Ht Hp Hr]
  case region =>
    intro b _
    unfold invBlock
    iintro H
    iapply (wp_block d (cV L) (jV L) hin b) $$ H
    iintro H
    iexact H
  · unfold invBlock rowsAgree
    isplitl [Ht]; · iexact Ht
    isplitl [Hp]; · iexact Hp
    iexists r0
    isplitr
    · ipureintro; exact fun j hj => absurd hj (Nat.not_lt_zero _)
    · iexact Hr
  iintro %_ HI
  unfold invBlock rowsAgree
  icases HI with ⟨Ht, Hp, %r, %hr, Hr⟩
  have hr' : r = rowsOf f top rate (ptsOf L x k) := funext fun j => hr j (j 0).isLt
  subst hr'
  sl_exec
  sl_step
  isplitl [Hx]; · iexact Hx
  isplitl [Ht]; · iexact Ht
  isplitl [Hp]; · iexists _; iexact Hp
  isplitl [Hr]; · iexists _; iexact Hr
  isplitl [Ho]
  · iexists _
    isplitr
    rotate_left
    · iexact Ho
    · ipureintro
      exact View.read_writes_whole _ _ _
  isplitl [Hc2]; · iexact Hc2
  isplitl [Hc3]; · iexact Hc3
  iexact HO

end

end Cert.KernelIdeal.Bessel

end
-- ==== Proof.Setup.lean ====
/-
  A tile's set-up as a step of separation logic: it fetches the parameters and the flat table, and multiplies the weights
  into the table.
-/
module

public import proofs.«01_k».proof.Proof.Chunk

@[expose] public section

noncomputable section

namespace Cert.KernelIdeal.Bessel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section

variable (d : Dev nD) (L : grid0.Coords)

/-- The scaling loop's invariant: the first `16 · n` entries of the table are scaled, the others as they came. -/
def invScale (t : Vec F S40000 .f32) (q : Vec F S48 .f32) (n : ℕ) (_ : BitVec 32) : sProp 𝕄 :=
  iprop(∃ f : Vec F S40000 .f32, ⌜(∀ j : S40000.Idx, (j 0).val < 16 * n → f j = scaled t q j) ∧ ∀ j : S40000.Idx, 16 * n ≤ (j 0).val → f j = t j⌝
    ∗ tblPts d (cV L) (jV L) f)

/-- The set-up's result holds the parameters' vectors of sixteen. -/
def SetupRet (q : Vec F S48 .f32) (r : Σ' (_ : BitVec 32) (_ : Vec F S16 .f32) (_ : Vec F S16 .f32) (_ : IVec S16 32) (_ : BitVec 32) (_ : BitVec 32), BitVec 32) : Prop :=
  r.2.1 = topOf q ∧ r.2.2.1 = rateOf q ∧ r.2.2.2.1 = broadcast S16 4999#32

theorem wp_setup {t : Vec F S40000 .f32} {q : Vec F S48 .f32} {qt qq : PosShare TreeShare}
    (O : CellTallies nD τ sig (HIx 1)) (W : Waits sig (HIx 1)) (t0 : Vec F S40000 .f32) (q0 : Vec F S48 .f32) :
    (iprop(Transfers.MayWaits (VT d L) (default : HIx 1) O
        ∗ (tV.view.loc (VT d L) ↦{qt} t) ∗ (qV.view.loc (VT d L) ↦{qq} q)
        ∗ tblPts d (cV L) (jV L) t0 ∗ (parV.view.loc (VT d L) ↦{fullShare} q0)
        ∗ semVal (VT d L, SemLoc.dma cc0_scoped0.sem) 0 ∗ semVal (VT d L, SemLoc.dma cc0_scoped1.sem) 0
        ∗ owes (VT d L) O W) : sProp 𝕄)
      ⊢ wp frame (wpE (defs₀ (F := F)) 𝒱₀ (VT d L) none) Set.univ
          (k0_part31 L xV (Memref.isWhole_whole _) tV (Memref.isWhole_whole _) qV (Memref.isWhole_whole _) oV (Memref.isWhole_whole _)
            tblV (Memref.isWhole_whole _) ptsV (Memref.isWhole_whole _) rowsV (Memref.isWhole_whole _) parV (Memref.isWhole_whole _)
            cc0_scoped0 cc0_scoped1 cc0_scoped2 cc0_scoped3 cc0_scoped4 cc0_scoped5)
          fun r => iprop(⌜SetupRet q r⌝ ∗ (tV.view.loc (VT d L) ↦{qt} t) ∗ (qV.view.loc (VT d L) ↦{qq} q)
        ∗ tblPts d (cV L) (jV L) (scaled t q) ∗ (∃ q', parV.view.loc (VT d L) ↦{fullShare} q')
        ∗ semVal (VT d L, SemLoc.dma cc0_scoped0.sem) 0 ∗ semVal (VT d L, SemLoc.dma cc0_scoped1.sem) 0
        ∗ owes (VT d L) O (insert (SemLoc.dma cc0_scoped1.sem, (default : HIx 1)) (insert (SemLoc.dma cc0_scoped0.sem, (default : HIx 1)) W))) := by
  iintro ⟨#Hmw, Ht, Hq, Hb, Hp, Hc0, Hc1, HO⟩
  rw [k0_part31_eq_skeleton]
  unfold k0_part31_skel
  sl_exec
  have hp : View.write (Elt F) parV.view q0 (wp_setup.sl.dma0 (q := q)) Finset.univ = q :=
    View.write_whole_univ (Val := Elt F) cc0_scratch3 q0 q
  have hb : View.write (Elt F) tblV.view t0 (wp_setup.sl.dma0_1 (t := t)) Finset.univ = t :=
    View.write_whole_univ (Val := Elt F) cc0_scratch0 t0 t
  rw [hp, hb]
  have hw : View.readAt (Elt F) parV.view (Rect.unit (s := S48) ![32] S16.size inb_S48_S16_32).toLoadRect q = wgtOf q :=
    funext fun l => read_params q (by decide) _ l
  have htop : View.readAt (Elt F) parV.view (Rect.unit (s := S48) ![0] S16.size inb_S48_S16_0).toLoadRect q = topOf q :=
    funext fun l => (read_params q (by decide) _ l).trans (by rw [Nat.zero_add]; rfl)
  have hrate : View.readAt (Elt F) parV.view (Rect.unit (s := S48) ![16] S16.size inb_S48_S16_16).toLoadRect q = rateOf q :=
    funext fun l => read_params q (by decide) _ l
  rw [hw, htop, hrate]
  sl_for (invScale d L t q) $$ [Hb]
  case region =>
    intro b _
    unfold invScale
    iintro ⟨%f, %hf, Hb⟩
    unfold wp_setup.sl.prog.body_1 k0_t1_body
    sl_exec
    sl_step
    iexists _
    isplitr
    rotate_left
    · iexact Hb
    · ipureintro
      have e := View.write_whole_slice_unit (Val := Elt F) cc0_scratch0 (k0_off1 b) S16.size (k0_off1_inb b) f
        (k0_pay167 (wgtOf q) (View.readAt (Elt F) tblV.view (Rect.unit (s := S40000) (k0_off1 b) S16.size (k0_off1_inb b)).toLoadRect f))
      have h := scale_step (k0_off1_eq b) (k0_off1_inb b) (fun l => rfl) hf.1 hf.2
        (v := k0_pay167 (wgtOf q) (View.readAt (Elt F) tblV.view (Rect.unit (s := S40000) (k0_off1 b) S16.size (k0_off1_inb b)).toLoadRect f))
      exact ⟨fun j hj => (congrFun e j).trans (h.1 j hj), fun j hj => (congrFun e j).trans (h.2 j hj)⟩
  · unfold invScale
    iexists t
    isplitr
    · ipureintro
      exact ⟨fun j hj => absurd hj (by omega), fun j _ => rfl⟩
    · iexact Hb
  iintro %_ HI
  unfold invScale
  icases HI with ⟨%f, %hf, Hb⟩
  have hf' : f = scaled t q := funext fun j => hf.1 j (Nat.lt_of_lt_of_le (j 0).isLt (show 40000 ≤ 16 * k0_t1_loop.trips by decide))
  subst hf'
  sl_exec
  sl_step
  isplitr
  · ipureintro; exact ⟨rfl, rfl, rfl⟩
  isplitl [Ht]; · iexact Ht
  isplitl [Hq]; · iexact Hq
  isplitl [Hb]; · iexact Hb
  isplitl [Hp]; · iexists _; iexact Hp
  isplitl [Hc0]; · iexact Hc0
  isplitl [Hc1]; · iexact Hc1
  iexact HO

end

end Cert.KernelIdeal.Bessel

end
-- ==== Proof.Tile.lean ====
/-
  A tile's whole task as a step of separation logic: from the points, the table and the parameters (each a share) and its
  part of the output, to the same with its part of the output filled in.
-/
module

public import proofs.«01_k».proof.Proof.Setup

@[expose] public section

noncomputable section

namespace Cert.KernelIdeal.Bessel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's part of the output -/

/-- A tile's number: twice its place on its core, plus its core. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

/-- The part of the output that tile number `w` fills: the chunks (of 25 rows) whose number is `w` modulo 32. -/
def oSet (w : ℕ) : Finset S50000x8x128.Idx := Finset.univ.filter fun j => (j 0).val / 25 % 32 = w

theorem mem_oSet {w : ℕ} {j : S50000x8x128.Idx} : j ∈ oSet w ↔ (j 0).val / 25 % 32 = w := by
  unfold oSet; rw [Finset.mem_filter]; exact and_iff_right (Finset.mem_univ _)

/-- A tile's chunks reach the end of the output. -/
theorem trips_reach : ∀ L : grid0.Coords, 2000 ≤ wid L + 32 * (k0_t2_loop L).trips := by decide +kernel

variable (L : grid0.Coords) (k : Fin (k0_t2_loop L).trips)

/-- The rows of chunk `k`. -/
theorem mem_oCh {j : S50000x8x128.Idx} :
    j ∈ (oCh L k).view.set ↔ 25 * (wid L + 32 * k.val) ≤ (j 0).val ∧ (j 0).val < 25 * (wid L + 32 * k.val) + 25 := by
  show j ∈ ((View.whole (main_v9_scv : Ref sig .scVector)).slice (Rect.unit (s := S50000x8x128) (k0_off75 L k) S25x8x128.size (k0_off75_inb L k))).set ↔ _
  have e : ((View.whole (main_v9_scv : Ref sig .scVector)).slice (Rect.unit (s := S50000x8x128) (k0_off75 L k) S25x8x128.size (k0_off75_inb L k))).set
      = (Rect.unit (s := S50000x8x128) (k0_off75 L k) S25x8x128.size (k0_off75_inb L k)).set := by
    rw [View.set_slice]; exact Finset.map_refl
  rw [e, Rect.mem_set_unit, k0_off75_eq]
  have hw : wid L = 2 * (L 1).val + (L 0).val := rfl
  have h1 : (j 1).val < 8 := (j 1).isLt
  have h2 : (j 2).val < 128 := (j 2).isLt
  constructor
  · intro h
    have h0 : 50 * (L 1).val + 25 * (L 0).val + 800 * k.val ≤ (j 0).val
      ∧ (j 0).val < 50 * (L 1).val + 25 * (L 0).val + 800 * k.val + 25 := h 0
    omega
  · intro h a
    fin_cases a
    · show 50 * (L 1).val + 25 * (L 0).val + 800 * k.val ≤ (j 0).val
        ∧ (j 0).val < 50 * (L 1).val + 25 * (L 0).val + 800 * k.val + 25
      omega
    · show 0 ≤ (j 1).val ∧ (j 1).val < 0 + 8; omega
    · show 0 ≤ (j 2).val ∧ (j 2).val < 0 + 128; omega

/-- A chunk's rows are in the tile's part of the output. -/
theorem oCh_subset : (oCh L k).view.set ⊆ oSet (wid L) := by
  intro j hj
  have h := (mem_oCh L k).1 hj
  have hw := wid_lt L
  exact mem_oSet.2 (by omega)

variable [FloatOps F]

/-- A chunk's points, in the array of all points. -/
theorem ptsOf_at (x : Vec F S6400000 .f32) (n : ℕ) (hn : n < 3200) :
    ptsOf L x k (at3200 n) = x (at6400000 (3200 * (wid L + 32 * k.val) + n)) := by
  refine congrArg x (funext fun a => ?_)
  fin_cases a
  refine Fin.ext ?_
  have e : k0_off2 L k 0 = 6400 * (L 1).val + 3200 * (L 0).val + 102400 * k.val := by rw [k0_off2_eq]; rfl
  have hb : k0_off2 L k 0 + 3200 ≤ 6400000 := k0_off2_inb L k 0
  have hw : wid L = 2 * (L 1).val + (L 0).val := rfl
  show k0_off2 L k 0 + 1 * (n % 3200) = (3200 * (wid L + 32 * k.val) + n) % 6400000
  omega

/-- The rows made of a chunk's points are the output's rows at the chunk's place. -/
theorem rowsOf_chunk (x : Vec F S6400000 .f32) (t : Vec F S40000 .f32) (q : Vec F S48 .f32) (y : S25x8x128.Idx) (j : S50000x8x128.Idx)
    (h0 : (j 0).val = 25 * (wid L + 32 * k.val) + (y 0).val) (h1 : (j 1).val = (y 1).val) (h2 : (j 2).val = (y 2).val) :
    rowsOf (scaled t q) (topOf q) (rateOf q) (ptsOf L x k) y = outOf x t q j := by
  have b0 : (y 0).val < 25 := (y 0).isLt
  have b2 : (y 2).val < 128 := (y 2).isLt
  unfold rowsOf outOf
  rw [ptsOf_at L k x _ (by omega), h1, h2]
  have e : 3200 * (wid L + 32 * k.val) + (128 * (y 0).val + (y 2).val) = 128 * (j 0).val + (y 2).val := by omega
  rw [e]

/-- An output that reads as a chunk's rows at the chunk's place agrees there with the whole output. -/
theorem agree_of_read {x : Vec F S6400000 .f32} {t : Vec F S40000 .f32} {q : Vec F S48 .f32} {o : Vec F S50000x8x128 .f32}
    (ho : (oCh L k).view.read (Elt F) o = rowsOf (scaled t q) (topOf q) (rateOf q) (ptsOf L x k)) {j : S50000x8x128.Idx}
    (hj : j ∈ (oCh L k).view.set) : o j = outOf x t q j := by
  have e0 : k0_off75 L k 0 = 50 * (L 1).val + 25 * (L 0).val + 800 * k.val := by rw [k0_off75_eq]; rfl
  have e1 : k0_off75 L k 1 = 0 := by rw [k0_off75_eq]; rfl
  have e2 : k0_off75 L k 2 = 0 := by rw [k0_off75_eq]; rfl
  have hm := (mem_oCh L k).1 hj
  have hw : wid L = 2 * (L 1).val + (L 0).val := rfl
  let y : S25x8x128.Idx := fun
    | 0 => ⟨(j 0).val - 25 * (wid L + 32 * k.val), by show _ < 25; omega⟩
    | 1 => ⟨(j 1).val, (j 1).isLt⟩
    | 2 => ⟨(j 2).val, (j 2).isLt⟩
  have hy : (Rect.unit (s := S50000x8x128) (k0_off75 L k) S25x8x128.size (k0_off75_inb L k)).emb y = j := by
    funext a
    fin_cases a
    · refine Fin.ext ?_
      show k0_off75 L k 0 + 1 * ((j 0).val - 25 * (wid L + 32 * k.val)) = (j 0).val
      omega
    · refine Fin.ext ?_
      show k0_off75 L k 1 + 1 * (j 1).val = (j 1).val
      omega
    · refine Fin.ext ?_
      show k0_off75 L k 2 + 1 * (j 2).val = (j 2).val
      omega
  have h := congrFun ho y
  have h' : o ((Rect.unit (s := S50000x8x128) (k0_off75 L k) S25x8x128.size (k0_off75_inb L k)).emb y) = _ := h
  rw [hy] at h'
  rw [h']
  refine rowsOf_chunk L k x t q y j ?_ rfl rfl
  show (j 0).val = _ + ((j 0).val - 25 * (wid L + 32 * k.val))
  omega

/-- The tile's part of the output held, agreeing with the whole output on the first `n` chunks. -/
def outAgree (d : Dev nD) (G : Vec F S50000x8x128 .f32) (n : ℕ) : sProp 𝕄 :=
  iprop(∃ o : Vec F S50000x8x128 .f32, ⌜∀ j ∈ oSet (wid L), (j 0).val / 800 < n → o j = G j⌝
    ∗ (oV.view.loc (VT d L) ↦[oSet (wid L)]{fullShare} o))

/-- The chunk loop's invariant. -/
def invChunks (d : Dev nD) (x : Vec F S6400000 .f32) (qx : PosShare TreeShare) (t : Vec F S40000 .f32) (q : Vec F S48 .f32)
    (O : CellTallies nD τ sig (HIx 1)) (W : Waits sig (HIx 1)) (n : ℕ) (_ : BitVec 32) : sProp 𝕄 :=
  iprop(Transfers.MayWaits (VT d L) (default : HIx 1) O
    ∗ (xV.view.loc (VT d L) ↦{qx} x) ∗ tblPts d (cV L) (jV L) (scaled t q)
    ∗ (∃ p, ptsPts d (cV L) (jV L) p) ∗ (∃ r, rowsPts d (cV L) (jV L) r)
    ∗ outAgree L d (outOf x t q) n
    ∗ semVal (VT d L, SemLoc.dma cc0_scoped2.sem) 0 ∗ semVal (VT d L, SemLoc.dma cc0_scoped3.sem) 0
    ∗ ∃ W', ⌜∀ p ∈ W', p ∈ W ∨ p.2 = none⌝ ∗ owes (VT d L) O W')

/-- One chunk keeps the invariant. -/
theorem chunk_step (d : Dev nD) {x : Vec F S6400000 .f32} {qx : PosShare TreeShare} {t : Vec F S40000 .f32} {q : Vec F S48 .f32}
    (hin : ∀ j l, Inside (topOf q l) (rateOf q l) (x j)) (O : CellTallies nD τ sig (HIx 1)) (W : Waits sig (HIx 1)) (v w : BitVec 32) :
    invChunks L d x qx t q O W k.val v
      ⊢ wp frame (wpE (defs₀ (F := F)) 𝒱₀ (VT d L) none) Set.univ
          (chunk L xV oV tblV ptsV (Memref.isWhole_whole _) rowsV (Memref.isWhole_whole _) cc0_scoped2 cc0_scoped3
            (topOf q) (rateOf q) (broadcast S16 4999#32) k)
          fun u => invChunks L d x qx t q O W (k.val + 1) u := by
  unfold invChunks outAgree
  iintro ⟨#Hmw, Hx, Ht, ⟨%p, Hp⟩, ⟨%r, Hr⟩, ⟨%o, %ho, Ho⟩, Hc2, Hc3, %W', %hW', HO⟩
  ihave Ho' := (pointsTo_split_subset (oCh_subset L k)).1 $$ Ho
  icases Ho' with ⟨Ho, Hrest⟩
  iapply (wp_wand_r Idealize.ShloMosaic.frame (wpE (defs₀ (F := F)) 𝒱₀ (VT d L) none) Set.univ)
  isplitl [Hx Ht Hp Hr Ho Hc2 Hc3 HO]
  · iapply (wp_chunk d L k (fun n l => hin _ l) O W' p r o)
    isplitr; · iexact Hmw
    isplitl [Hx]; · iexact Hx
    isplitl [Ht]; · iexact Ht
    isplitl [Hp]; · iexact Hp
    isplitl [Hr]; · iexact Hr
    isplitl [Ho]; · iexact Ho
    isplitl [Hc2]; · iexact Hc2
    isplitl [Hc3]; · iexact Hc3
    iexact HO
  iintro %_ ⟨Hx, Ht, Hp, Hr, ⟨%o', %ho', Ho⟩, Hc2, Hc3, HO⟩
  ihave Hj := (pointsTo_join (Finset.disjoint_sdiff)) $$ [Ho Hrest]
  · isplitl [Ho]; · iexact Ho
    iexact Hrest
  rw [Finset.union_sdiff_of_subset (oCh_subset L k)]
  isplitr; · iexact Hmw
  isplitl [Hx]; · iexact Hx
  isplitl [Ht]; · iexact Ht
  isplitl [Hp]; · iexact Hp
  isplitl [Hr]; · iexact Hr
  isplitl [Hj]
  · iexists _
    isplitr
    rotate_left
    · iexact Hj
    · ipureintro
      intro j hj hn
      by_cases hI : j ∈ (oCh L k).view.set
      · rw [Finset.piecewise_eq_of_notMem _ _ _ (fun h => (Finset.mem_sdiff.1 h).2 hI)]
        exact agree_of_read L k ho' hI
      · rw [Finset.piecewise_eq_of_mem _ _ _ (Finset.mem_sdiff.2 ⟨hj, hI⟩)]
        refine ho j hj ?_
        have h1 := mem_oSet.1 hj
        have h2 : ¬ (25 * (wid L + 32 * k.val) ≤ (j 0).val ∧ (j 0).val < 25 * (wid L + 32 * k.val) + 25) :=
          fun h => hI ((mem_oCh L k).2 h)
        have h3 := wid_lt L
        omega
  isplitl [Hc2]; · iexact Hc2
  isplitl [Hc3]; · iexact Hc3
  iexists _
  isplitr
  rotate_left
  · iexact HO
  · ipureintro
    intro p hp
    rcases Finset.mem_insert.1 hp with hp | hp
    · exact .inr (hp ▸ rfl)
    rcases Finset.mem_insert.1 hp with hp | hp
    · exact .inr (hp ▸ rfl)
    exact hW' p hp

/-- The tile's task from the pieces it is dealt to the pieces it hands back. -/
theorem tile_run (d : Dev nD) {x : Vec F S6400000 .f32} {t : Vec F S40000 .f32} {q : Vec F S48 .f32} {qx qt qq : PosShare TreeShare}
    (hin : ∀ j l, Inside (topOf q l) (rateOf q l) (x j)) (O : CellTallies nD τ sig (HIx 1)) (W : Waits sig (HIx 1))
    (t0 : Vec F S40000 .f32) (p0 : Vec F S3200 .f32) (r0 : Vec F S25x8x128 .f32) (q0 : Vec F S48 .f32) (o0 : Vec F S50000x8x128 .f32) :
    (iprop(Transfers.MayWaits (VT d L) (default : HIx 1) O
        ∗ (xV.view.loc (VT d L) ↦{qx} x) ∗ (tV.view.loc (VT d L) ↦{qt} t) ∗ (qV.view.loc (VT d L) ↦{qq} q)
        ∗ (oV.view.loc (VT d L) ↦[oSet (wid L)]{fullShare} o0)
        ∗ tblPts d (cV L) (jV L) t0 ∗ ptsPts d (cV L) (jV L) p0 ∗ rowsPts d (cV L) (jV L) r0 ∗ (parV.view.loc (VT d L) ↦{fullShare} q0)
        ∗ semVal (VT d L, SemLoc.dma cc0_scoped0.sem) 0 ∗ semVal (VT d L, SemLoc.dma cc0_scoped1.sem) 0
        ∗ semVal (VT d L, SemLoc.dma cc0_scoped2.sem) 0 ∗ semVal (VT d L, SemLoc.dma cc0_scoped3.sem) 0
        ∗ owes (VT d L) O W) : sProp 𝕄)
      ⊢ wp frame (wpE (defs₀ (F := F)) 𝒱₀ (VT d L) none) Set.univ
          (cc0_run L xV (Memref.isWhole_whole _) tV (Memref.isWhole_whole _) qV (Memref.isWhole_whole _) oV (Memref.isWhole_whole _)
            tblV (Memref.isWhole_whole _) ptsV (Memref.isWhole_whole _) rowsV (Memref.isWhole_whole _) parV (Memref.isWhole_whole _)
            cc0_scoped0 cc0_scoped1 cc0_scoped2 cc0_scoped3 cc0_scoped4 cc0_scoped5)
          fun _ => iprop((xV.view.loc (VT d L) ↦{qx} x) ∗ (tV.view.loc (VT d L) ↦{qt} t) ∗ (qV.view.loc (VT d L) ↦{qq} q)
        ∗ (oV.view.loc (VT d L) ↦[oSet (wid L)]{fullShare} outOf x t q)
        ∗ (∃ f, tblPts d (cV L) (jV L) f) ∗ (∃ p, ptsPts d (cV L) (jV L) p) ∗ (∃ r, rowsPts d (cV L) (jV L) r)
        ∗ (∃ q', parV.view.loc (VT d L) ↦{fullShare} q')
        ∗ semVal (VT d L, SemLoc.dma cc0_scoped0.sem) 0 ∗ semVal (VT d L, SemLoc.dma cc0_scoped1.sem) 0
        ∗ semVal (VT d L, SemLoc.dma cc0_scoped2.sem) 0 ∗ semVal (VT d L, SemLoc.dma cc0_scoped3.sem) 0
        ∗ ∃ W', ⌜∀ p ∈ W', p ∈ W ∨ p.2 = none⌝ ∗ owes (VT d L) O W') := by
  obtain ⟨rest, hrun⟩ := run_eq (F := F) L xV (Memref.isWhole_whole _) tV (Memref.isWhole_whole _) qV (Memref.isWhole_whole _) oV (Memref.isWhole_whole _)
    tblV (Memref.isWhole_whole _) ptsV (Memref.isWhole_whole _) rowsV (Memref.isWhole_whole _) parV (Memref.isWhole_whole _)
    cc0_scoped0 cc0_scoped1 cc0_scoped2 cc0_scoped3 cc0_scoped4 cc0_scoped5
  rw [hrun, wp_bind]
  iintro ⟨#Hmw, Hx, Ht, Hq, Ho, Hb, Hp, Hr, Hpar, Hc0, Hc1, Hc2, Hc3, HO⟩
  iapply (wp_wand_r Idealize.ShloMosaic.frame (wpE (defs₀ (F := F)) 𝒱₀ (VT d L) none) Set.univ)
  isplitl [Ht Hq Hb Hpar Hc0 Hc1 HO]
  · iapply (wp_setup d L O W t0 q0)
    isplitr; · iexact Hmw
    isplitl [Ht]; · iexact Ht
    isplitl [Hq]; · iexact Hq
    isplitl [Hb]; · iexact Hb
    isplitl [Hpar]; · iexact Hpar
    isplitl [Hc0]; · iexact Hc0
    isplitl [Hc1]; · iexact Hc1
    iexact HO
  iintro %ret ⟨%hret, Ht, Hq, Hb, Hpar, Hc0, Hc1, HO⟩
  obtain ⟨v1, top, rate, last, v9, v10, v31⟩ := ret
  obtain ⟨h1, h2, h3⟩ := hret
  have h1 : top = topOf q := h1
  have h2 : rate = rateOf q := h2
  have h3 : last = broadcast S16 4999#32 := h3
  subst h1 h2 h3
  dsimp only
  sl_for (invChunks L d x qx t q O W) $$ [Hx Hb Hp Hr Ho Hc2 Hc3 HO]
  case region =>
    intro k v
    exact chunk_step L k d hin O W v v
  · unfold invChunks outAgree
    isplitr; · iexact Hmw
    isplitl [Hx]; · iexact Hx
    isplitl [Hb]; · iexact Hb
    isplitl [Hp]; · iexists _; iexact Hp
    isplitl [Hr]; · iexists _; iexact Hr
    isplitl [Ho]
    · iexists o0
      isplitr
      · ipureintro; exact fun j _ hj => absurd hj (Nat.not_lt_zero _)
      · iexact Ho
    isplitl [Hc2]; · iexact Hc2
    isplitl [Hc3]; · iexact Hc3
    iexists _
    isplitr
    rotate_left
    · iexact HO
    · ipureintro
      intro p hp
      rcases Finset.mem_insert.1 hp with hp | hp
      · exact .inr (hp ▸ rfl)
      rcases Finset.mem_insert.1 hp with hp | hp
      · exact .inr (hp ▸ rfl)
      exact .inl hp
  iintro %w HI
  sl_for (fun (_ : ℕ) (_ : BitVec 32) => (iprop(emp) : sProp (MT nD τ sig (HIx 1) (Elt F) ℕ UU ℕ))) $$ []
  case region =>
    intro k _
    exact absurd k.isLt (Nat.not_lt.2 ((k0_t4_abs L).2.1.trans (Nat.zero_le _)))
  · iempintro
  iintro %_ -
  unfold invChunks outAgree
  icases HI with ⟨-, Hx, Hb, Hp, Hr, ⟨%o, %ho, Ho⟩, Hc2, Hc3, HO⟩
  have ho' : ∀ j ∈ oSet (wid L), o j = outOf x t q j := fun j hj => by
    refine ho j hj ?_
    have h1 := mem_oSet.1 hj
    have h2 := trips_reach L
    have h3 : (j 0).val < 50000 := (j 0).isLt
    have h4 : (k0_t2_loop L).trips = Scf.trips (k0_t2_loop L).lb (k0_t2_loop L).ub (k0_t2_loop L).st := rfl
    omega
  ihave Ho := (Entails.of_eq (pointsTo_congr (ℓ := oV.view.loc (VT d L)) (I := oSet (wid L)) (q := fullShare) ho')) $$ Ho
  sl_exec
  sl_step
  isplitl [Hx]; · iexact Hx
  isplitl [Ht]; · iexact Ht
  isplitl [Hq]; · iexact Hq
  isplitl [Ho]; · iexact Ho
  isplitl [Hb]; · iexists _; iexact Hb
  isplitl [Hp]; · iexact Hp
  isplitl [Hr]; · iexact Hr
  isplitl [Hpar]; · iexact Hpar
  isplitl [Hc0]; · iexact Hc0
  isplitl [Hc1]; · iexact Hc1
  isplitl [Hc2]; · iexact Hc2
  isplitl [Hc3]; · iexact Hc3
  iexact HO

end Cert.KernelIdeal.Bessel

end
-- ==== Proof.Launch.lean ====
/-
  The call of the kernel as the launch deals it out: each of the 32 tiles gets a read share of the points, of the table and
  of the parameters, and its own part of the output; what it gives back is the same with its part filled in.
-/
module

public import proofs.«01_k».proof.Proof.Tile
public import Idealize.ShloMosaic.Lib.SparseCore.Quiescent
public import Idealize.ShloMosaic.Lib.StableHlo.Run
public import Idealize.ShloMosaic.Lib.Pipeline.Kit

@[expose] public section

noncomputable section

namespace Cert.KernelIdeal.Bessel

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The handshake semaphores differ and none of them, nor a core's shared buffer, belongs to a region. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the user algebra. -/
abbrev EH : Emb UH (MT nD τ sig (HIx 1) (Elt F) ℕ UU ℕ) := embL

/-! ## The arrays the kernel reads and writes, on a device -/

abbrev xLoc (d : Dev nD) : Loc nD τ sig := (SparseCore.T d).loc main_arg0
abbrev tLoc (d : Dev nD) : Loc nD τ sig := (SparseCore.T d).loc main_v8
abbrev qLoc (d : Dev nD) : Loc nD τ sig := (SparseCore.T d).loc main_v7
abbrev oLoc (d : Dev nD) : Loc nD τ sig := (SparseCore.T d).loc main_v9

/-- What the call finds: the points, the table, the parameters and the output's old contents. -/
structure Given (F : FTy → Type) where
  x : Vec F S6400000 .f32
  t : Vec F S40000 .f32
  q : Vec F S48 .f32
  o : Vec F S50000x8x128 .f32

/-- The share tile `i` of core `c` reads at. -/
def tileShare (c : Fin 2) (i : Fin 16) : PosShare TreeShare :=
  Transfers.dealOf (Transfers.dealOf fullShare Finset.univ c) Finset.univ i

/-- A tile's pieces, its part of the output holding `f`. -/
def piece (g : Given F) (d : Dev nD) (c : Fin 2) (i : Fin 16) (f : Vec F S50000x8x128 .f32) : sProp 𝕄 :=
  iprop((xLoc d ↦{tileShare c i} g.x) ∗ (tLoc d ↦{tileShare c i} g.t) ∗ (qLoc d ↦{tileShare c i} g.q)
    ∗ (oLoc d ↦[oSet (2 * i.val + c.val)]{fullShare} f))

instance piece_storable (g : Given F) (d : Dev nD) (c : Fin 2) (i : Fin 16) (f : Vec F S50000x8x128 .f32) :
    BI.Storable (upEmb : UEmb _ 𝕄) (piece g d c i f) := by
  unfold piece; infer_instance

/-! ## Dealing out and gathering in -/

/-- An array held whole is held by the 32 tiles at their shares. -/
theorem dealt {ℓ : Loc nD τ sig} (f : Buf (Elt F) ℓ) :
    (ℓ ↦{fullShare} f : sProp 𝕄) = bigSep Finset.univ fun c : Fin 2 => bigSep Finset.univ fun i : Fin 16 => ℓ ↦{tileShare c i} f := by
  rw [Transfers.pointsTo_deal (Finset.univ : Finset (Fin 2)) Finset.univ_nonempty fullShare]
  exact bigSep_congr fun c _ => Transfers.pointsTo_deal (Finset.univ : Finset (Fin 16)) Finset.univ_nonempty _

theorem oSet_disjoint {w w' : ℕ} (h : w ≠ w') : Disjoint (oSet w) (oSet w') := by
  rw [Finset.disjoint_left]
  intro j hj hj'
  exact h ((mem_oSet.mp hj).symm.trans (mem_oSet.mp hj'))

/-- The parts of the output written by one core's tiles. -/
def coreSet (c : Fin 2) : Finset S50000x8x128.Idx := Finset.univ.biUnion fun i : Fin 16 => oSet (2 * i.val + c.val)

theorem coreSet_disjoint {c c' : Fin 2} (h : c ≠ c') : Disjoint (coreSet c) (coreSet c') := by
  unfold coreSet
  rw [Finset.disjoint_biUnion_left]
  intro i _
  rw [Finset.disjoint_biUnion_right]
  intro i' _
  refine oSet_disjoint fun e => h (Fin.ext ?_)
  have := c.isLt; have := c'.isLt
  omega

theorem coreSet_cover : (Finset.univ : Finset (Fin 2)).biUnion coreSet = Finset.univ := by
  refine Finset.eq_univ_of_forall fun j => ?_
  have hlt : (j 0).val / 25 % 32 < 32 := Nat.mod_lt _ (by decide)
  simp only [Finset.mem_biUnion, coreSet, Finset.mem_univ, true_and]
  refine ⟨⟨(j 0).val / 25 % 32 % 2, by omega⟩, ⟨(j 0).val / 25 % 32 / 2, by omega⟩, mem_oSet.mpr ?_⟩
  show _ = 2 * ((j 0).val / 25 % 32 / 2) + (j 0).val / 25 % 32 % 2
  omega

/-- The output held whole is its 32 parts. -/
theorem parted (d : Dev nD) (f : Vec F S50000x8x128 .f32) :
    (oLoc d ↦{fullShare} f : sProp 𝕄)
      = bigSep Finset.univ fun c : Fin 2 => bigSep Finset.univ fun i : Fin 16 => oLoc d ↦[oSet (2 * i.val + c.val)]{fullShare} f := by
  have h1 : (oLoc d ↦{fullShare} f : sProp 𝕄) = bigSep Finset.univ fun c : Fin 2 => oLoc d ↦[coreSet c]{fullShare} f := by
    rw [← pointsTo_biUnion (ℓ := oLoc d) Finset.univ coreSet (fun c _ c' _ h => coreSet_disjoint h), coreSet_cover]; try rfl
  rw [h1]
  refine bigSep_congr fun c _ => ?_
  exact pointsTo_biUnion (ℓ := oLoc d) Finset.univ (fun i : Fin 16 => oSet (2 * i.val + c.val))
    (fun i _ i' _ h => oSet_disjoint fun e => h (Fin.ext (by omega)))

/-- All the tiles' pieces together are the four arrays held whole. -/
theorem pieces_eq (g : Given F) (d : Dev nD) (f : Vec F S50000x8x128 .f32) :
    (bigSep Finset.univ fun c : Fin 2 => bigSep Finset.univ fun i : Fin 16 => piece g d c i f)
      = (iprop((xLoc d ↦{fullShare} g.x) ∗ (tLoc d ↦{fullShare} g.t) ∗ (qLoc d ↦{fullShare} g.q) ∗ (oLoc d ↦{fullShare} f)) : sProp 𝕄) := by
  rw [parted d f, dealt (ℓ := xLoc d) g.x, dealt (ℓ := tLoc d) g.t, dealt (ℓ := qLoc d) g.q]
  rw [← bigSep_sep', ← bigSep_sep', ← bigSep_sep']
  refine bigSep_congr fun c _ => ?_
  rw [← bigSep_sep', ← bigSep_sep', ← bigSep_sep']
  rfl

/-! ## What passes between the TensorCore and the tiles -/

variable [FloatOps F]

/-- The call's payloads: to a tile its pieces as they were, from it its pieces with the output computed; a core's are its
    sixteen tiles'. -/
def P (g : Dev nD → Given F) : (K (F := F)).Pay (nD := nD) (Val := Elt F) (Name := ℕ) (U := UU) where
  st := fun q d c => match q with | 0 => bigSep Finset.univ fun i : Fin 16 => piece (g d) d c i (g d).o
  dn := fun q d c => match q with | 0 => bigSep Finset.univ fun i : Fin 16 => piece (g d) d c i (outOf (g d).x (g d).t (g d).q)
  go := fun q d c i => match q with | 0 => piece (g d) d c i (g d).o
  td := fun q d c i => match q with | 0 => piece (g d) d c i (outOf (g d).x (g d).t (g d).q)
  x := fun _ _ => iprop(emp)

instance P_storable (g : Dev nD → Given F) : (P g).IsStorable where
  st q d c := match q with | 0 => by unfold P; infer_instance
  dn q d c := match q with | 0 => by unfold P; infer_instance
  go q d c i := match q with | 0 => by unfold P; infer_instance
  td q d c i := match q with | 0 => by unfold P; infer_instance

/-! ## A tile's own counters and buffers -/

section Tile

variable (g : Dev nD → Given F) (d : Dev nD) (L : grid0.Coords)

/-- The kernel's first four transfer counters. -/
abbrev csem (k : Fin 4) : DmaSem sig := ⟨k.val, by have := k.isLt; show k.val < 6; omega⟩
abbrev dcell (d : Dev nD) (L : grid0.Coords) (k : Fin 4) : GSem nD τ sig := (VT d L, .dma (csem k))

theorem dcell_mem (k : Fin 4) : dcell d L k ∈ ownCells (VT d L) :=
  mem_ownCells.mpr ⟨rfl, (show ∀ s : DmaSem sig, (SemLoc.dma s : SemLoc sig).isScoped .scVector = true by decide) _⟩

omit [FloatOps F] in
/-- The four counters used are among a tile's own. -/
theorem ownSems0_V :
    (ownSems0 (VT d L) : sProp 𝕄)
      = iprop((semVal (VT d L, SemLoc.dma cc0_scoped0.sem) 0 ∗ semVal (VT d L, SemLoc.dma cc0_scoped1.sem) 0
            ∗ semVal (VT d L, SemLoc.dma cc0_scoped2.sem) 0 ∗ semVal (VT d L, SemLoc.dma cc0_scoped3.sem) 0)
          ∗ bigSep ((ownCells (VT d L)) \ Finset.univ.image (dcell d L)) fun s => semVal s 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun s : GSem nD τ sig => s.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- A scratch buffer of a tile, as the device names it. -/
abbrev own (L : grid0.Coords) (b : Ref sig .scVector) : DevRef τ sig := (Proc.scVector (cV L) (jV L)).devRef b

theorem own_mem (b : Ref sig .scVector) (h : (own L b).owner = (own L cc0_scratch0).owner) :
    own L b ∈ ownRefs (τ := τ) (sig := sig) (.scVector (cV L) (jV L)) :=
  SparseCore.Cfg.mem_ownRefs_of_owner (p := Proc.scVector (cV L) (jV L)) (b := own L b) (h.trans rfl)

theorem own_ne {a b : Ref sig .scVector} (h : a ≠ b) : own L a ≠ own L b := fun e => h (Proc.devRef_injective _ e)

omit [FloatOps F] in
/-- The four scratch buffers are among a tile's own. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (own L cc0_scratch0)).erase (own L cc0_scratch1)).erase
              (own L cc0_scratch2)).erase (own L cc0_scratch3))
              fun b => iprop(∃ f, ((d, b) : Loc nD τ sig) ↦{fullShare} f)) := by
  unfold SparseCore.Cfg.ownBufs
  refine (SparseCore.bigSep_erase' (own_mem L cc0_scratch0 rfl)).trans ?_
  rw [SparseCore.bigSep_erase' (Finset.mem_erase.mpr ⟨own_ne L (show (cc0_scratch1 : Ref sig .scVector) ≠ cc0_scratch0 by decide), own_mem L cc0_scratch1 rfl⟩),
    SparseCore.bigSep_erase' (Finset.mem_erase.mpr ⟨own_ne L (show (cc0_scratch2 : Ref sig .scVector) ≠ cc0_scratch1 by decide),
      Finset.mem_erase.mpr ⟨own_ne L (show (cc0_scratch2 : Ref sig .scVector) ≠ cc0_scratch0 by decide), own_mem L cc0_scratch2 rfl⟩⟩),
    SparseCore.bigSep_erase' (Finset.mem_erase.mpr ⟨own_ne L (show (cc0_scratch3 : Ref sig .scVector) ≠ cc0_scratch2 by decide),
      Finset.mem_erase.mpr ⟨own_ne L (show (cc0_scratch3 : Ref sig .scVector) ≠ cc0_scratch1 by decide),
        Finset.mem_erase.mpr ⟨own_ne L (show (cc0_scratch3 : Ref sig .scVector) ≠ cc0_scratch0 by decide), own_mem L cc0_scratch3 rfl⟩⟩⟩)]

/-! ## A tile's task as the launch asks for it -/

/-- From its pieces and its own buffers and counters, a tile gives its pieces back with its part of the output computed. -/
theorem tile_body (hin : ∀ j l, Inside (topOf (g d).q l) (rateOf (g d).q l) ((g d).x j))
    (O : CellTallies nD τ sig (HIx 1)) (W : Waits sig (HIx 1)) (hO : ∀ s, O s none = 0) :
    iprop(levAts (K (F := F)).L (K (F := F)).lev ∗ emp
        ∗ piece (g d) d (L 0) (L 1) (g d).o
        ∗ scopedBufs (VT d L) ∗ scopedSems0 (VT d L) ∗ owes (VT d L) O W)
      ⊢ wp frame (wpE (defs₀ (F := F)) 𝒱₀ (VT d L) none) Set.univ
          (cc0_run L xV (Memref.isWhole_whole _) tV (Memref.isWhole_whole _) qV (Memref.isWhole_whole _) oV (Memref.isWhole_whole _)
            tblV (Memref.isWhole_whole _) ptsV (Memref.isWhole_whole _) rowsV (Memref.isWhole_whole _) parV (Memref.isWhole_whole _)
            cc0_scoped0 cc0_scoped1 cc0_scoped2 cc0_scoped3 cc0_scoped4 cc0_scoped5)
          fun _ => iprop(piece (g d) d (L 0) (L 1) (outOf (g d).x (g d).t (g d).q)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  unfold piece
  iintro ⟨#Hlv, -, ⟨Hx, Ht, Hq, Ho⟩, ⟨⟨%b0, HB0⟩, ⟨%b1, HB1⟩, ⟨%b2, HB2⟩, ⟨%b3, HB3⟩, Hbufs⟩, ⟨⟨HC0, HC1, HC2, HC3⟩, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hmw Hx Ht Hq Ho HB0 HB1 HB2 HB3 HC0 HC1 HC2 HC3 HO]
  · iapply (tile_run L d (x := (g d).x) (t := (g d).t) (q := (g d).q) (qx := tileShare (L 0) (L 1)) (qt := tileShare (L 0) (L 1))
      (qq := tileShare (L 0) (L 1)) hin O W b0 b1 b2 b3 (g d).o)
    isplitl [Hmw]; · iexact Hmw
    isplitl [Hx]; · iexact Hx
    isplitl [Ht]; · iexact Ht
    isplitl [Hq]; · iexact Hq
    isplitl [Ho]; · iexact Ho
    isplitl [HB0]; · iexact HB0
    isplitl [HB1]; · iexact HB1
    isplitl [HB2]; · iexact HB2
    isplitl [HB3]; · iexact HB3
    isplitl [HC0]; · iexact HC0
    isplitl [HC1]; · iexact HC1
    isplitl [HC2]; · iexact HC2
    isplitl [HC3]; · iexact HC3
    iexact HO
  iintro %_ ⟨Hx, Ht, Hq, Ho, ⟨%b0', HB0⟩, ⟨%b1', HB1⟩, ⟨%b2', HB2⟩, ⟨%b3', HB3⟩, HC0, HC1, HC2, HC3, %W', %hW', HO⟩
  isplitl [Hx Ht Hq Ho]
  · isplitl [Hx]; · iexact Hx
    isplitl [Ht]; · iexact Ht
    isplitl [Hq]; · iexact Hq
    iexact Ho
  isplitl [HB0 HB1 HB2 HB3 Hbufs]
  · isplitl [HB0]; · iexists b0'; iexact HB0
    isplitl [HB1]; · iexists b1'; iexact HB1
    isplitl [HB2]; · iexists b2'; iexact HB2
    isplitl [HB3]; · iexists b3'; iexact HB3
    iexact Hbufs
  isplitl [HC0 HC1 HC2 HC3 Hsems]
  · isplitl [HC0 HC1 HC2 HC3]
    · isplitl [HC0]; · iexact HC0
      isplitl [HC1]; · iexact HC1
      isplitl [HC2]; · iexact HC2
      iexact HC3
    iexact Hsems
  iexists W'; isplitr
  · ipureintro; exact fun p hp => (hW' p hp).imp_right Or.inl
  · iexact HO

end Tile

/-! ## The launch theorem's obligations -/

/-- A tile's place on the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xV (Memref.isWhole_whole _) tV (Memref.isWhole_whole _) qV (Memref.isWhole_whole _) oV (Memref.isWhole_whole _)
          tblV (Memref.isWhole_whole _) ptsV (Memref.isWhole_whole _) rowsV (Memref.isWhole_whole _) parV (Memref.isWhole_whole _)
          cc0_scoped0 cc0_scoped1 cc0_scoped2 cc0_scoped3 cc0_scoped4 cc0_scoped5) ⟨⟩ c s := rfl

/-- Every tile's task is done, given that every point's row lies inside the table. -/
theorem tileObl (g : Dev nD → Given F) (hin : ∀ d j l, Inside (topOf (g d).q l) (rateOf (g d).q l) ((g d).x j)) :
    (K (F := F)).TileObl (D (F := F)) 𝒱 (P g) v₀ 0 := by
  intro d c i O W hO _ _
  simp only [show (P g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body g d (coordsV ⟨_, hci.1⟩ ⟨_, hci.2⟩) (hin d) O W hO

/-- A core's share of the call is its tiles', going and coming back. -/
theorem vecSplit (g : Dev nD → Given F) : (K (F := F)).VecSplit' (P g) 0 := by
  intro d c
  show (bigSep Finset.univ fun i : Fin 16 => piece (g d) d c i (g d).o)
    ⊢ |={Set.univ}=> iprop((bigSep Finset.univ fun i : Fin 16 => piece (g d) d c i (g d).o)
      ∗ ((bigSep Finset.univ fun i : Fin 16 => piece (g d) d c i (outOf (g d).x (g d).t (g d).q))
        -∗ bigSep Finset.univ fun i : Fin 16 => piece (g d) d c i (outOf (g d).x (g d).t (g d).q)))
  iintro H
  imodintro
  isplitl [H]; · iexact H
  iintro H; iexact H

end Cert.KernelIdeal.Bessel

end
-- ==== Proof.Main.lean ====
/-
  The whole program: the host's preparation of the parameters and the table, the call, and the host's transposition of the
  output. Every execution ends with the result the transposed output, the arguments unchanged, the counters at zero.
-/
module

public import proofs.«01_k».proof.Proof.Launch

@[expose] public section

noncomputable section

namespace Cert.KernelIdeal.Bessel

open Cert.KernelIdeal Cert.KernelIdeal.Gen
open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## The host's operations -/

/-- What the host does before the call: the table's end and the rate, the parameters' three vectors, the flat table. -/
abbrev preOps : List (HloOp τ sig (Elt F)) :=
  [ nullary main_cst (constant S_ .f32 0xFF800000#32),
    binary main_arg2 main_cst main_v0 ((fun x v => Host.reduce FloatOps.maximumf x v reducesTo_S5000_S_d0 h_S_) : (⟨S5000, .f32⟩ : BufTy).Contents (Elt F) → (⟨S_, .f32⟩ : BufTy).Contents (Elt F) → (⟨S_, .f32⟩ : BufTy).Contents (Elt F)),
    nullary main_cst_0 (constant S_ .f32 0x459C3800#32),
    binary main_cst_0 main_v0 main_v1 (Host.divf : (⟨S_, .f32⟩ : BufTy).Contents (Elt F) → (⟨S_, .f32⟩ : BufTy).Contents (Elt F) → (⟨S_, .f32⟩ : BufTy).Contents (Elt F)),
    unary main_v0 main_v2 (broadcastInDim S16 ![] bcast_S_S16 : (⟨S_, .f32⟩ : BufTy).Contents (Elt F) → (⟨S16, .f32⟩ : BufTy).Contents (Elt F)),
    unary main_v1 main_v3 (broadcastInDim S16 ![] bcast_S_S16 : (⟨S_, .f32⟩ : BufTy).Contents (Elt F) → (⟨S16, .f32⟩ : BufTy).Contents (Elt F)),
    reshape main_arg1 main_v4 (rfl : (.f32 : EltTy) = .f32) shapeCasts_S8_S1x8,
    unary main_v4 main_v5 (broadcastInDim S2x8 ![0, 1] bcast_S1x8_S2x8_0_1 : (⟨S1x8, .f32⟩ : BufTy).Contents (Elt F) → (⟨S2x8, .f32⟩ : BufTy).Contents (Elt F)),
    reshape main_v5 main_v6 (rfl : (.f32 : EltTy) = .f32) shapeCasts_S2x8_S16,
    nary ![main_v2, main_v3, main_v6] main_v7 (fun u => (concatenate S48 0 [⟨S16, (u 0 : (⟨S16, .f32⟩ : BufTy).Contents (Elt F))⟩, ⟨S16, (u 1 : (⟨S16, .f32⟩ : BufTy).Contents (Elt F))⟩, ⟨S16, (u 2 : (⟨S16, .f32⟩ : BufTy).Contents (Elt F))⟩] concatenates_S16_S16_S16_S48_d0 : (⟨S48, .f32⟩ : BufTy).Contents (Elt F))),
    reshape main_arg3 main_v8 (rfl : (.f32 : EltTy) = .f32) shapeCasts_S5000x8_S40000 ]

/-- What the host does after the call: the output transposed and flattened. -/
abbrev postOps : List (HloOp τ sig (Elt F)) :=
  [ unary main_v9 main_v10 ((transpose S50000x128x8 [0, 2, 1] · transposes_S50000x8x128_S50000x128x8_0_2_1) : (⟨S50000x8x128, .f32⟩ : BufTy).Contents (Elt F) → (⟨S50000x128x8, .f32⟩ : BufTy).Contents (Elt F)),
    reshape main_v10 main_v11 (rfl : (.f32 : EltTy) = .f32) shapeCasts_S50000x128x8_S6400000x8 ]

theorem main_eq (d : Dev nD) : main (F := F) d
    = (seq preOps >>= fun _ => (sc (F := F)).run d 0 >>= fun _ => seq postOps >>= fun _ => Pure.pure ⟨⟩) := rfl

theorem pre_sub : ∀ op ∈ (preOps : List (HloOp τ sig (Elt F))), op.bufs ⊆ tcRefs τ sig :=
  List.forall_iff_forall_mem.mp ⟨nullary_bufs_sub .., binary_bufs_sub .., nullary_bufs_sub .., binary_bufs_sub .., unary_bufs_sub ..,
    unary_bufs_sub .., reshape_bufs_sub .., unary_bufs_sub .., reshape_bufs_sub .., nary_bufs_sub .., reshape_bufs_sub ..⟩

theorem post_sub : ∀ op ∈ (postOps : List (HloOp τ sig (Elt F))), op.bufs ⊆ tcRefs τ sig :=
  List.forall_iff_forall_mem.mp ⟨unary_bufs_sub .., reshape_bufs_sub ..⟩

theorem pre_fresh : ∀ op ∈ (preOps : List (HloOp τ sig (Elt F))), op.fresh = ∅ := by
  intro _ h; (repeat (cases h with | head => rfl | tail _ h => ?_)); exact nomatch h

theorem post_fresh : ∀ op ∈ (postOps : List (HloOp τ sig (Elt F))), op.fresh = ∅ := by
  intro _ h; (repeat (cases h with | head => rfl | tail _ h => ?_)); exact nomatch h

/-! ## The buffers' contents, stage by stage -/

variable (m : (ℓ : Loc nD τ sig) → Buf (Elt F) ℓ) (ρ : Dev nD → PrngReg)

abbrev bx : DevRef τ sig := Proc.devRef .tc (main_arg0 : Ref sig .tc)
abbrev bt : DevRef τ sig := Proc.devRef .tc (main_v8 : Ref sig .tc)
abbrev bq : DevRef τ sig := Proc.devRef .tc (main_v7 : Ref sig .tc)
abbrev bo : DevRef τ sig := Proc.devRef .tc (main_v9 : Ref sig .tc)

/-- At the call. -/
def atCall (d : Dev nD) : Valuation τ sig (Elt F) := after preOps (fun b => m (d, b))

/-- What the call finds. -/
def given (d : Dev nD) : Given F where
  x := atCall m d bx
  t := atCall m d bt
  q := atCall m d bq
  o := atCall m d bo

/-- The kernel's output. -/
def output (d : Dev nD) : Vec F S50000x8x128 .f32 := outOf (given m d).x (given m d).t (given m d).q

/-- After the call. -/
def atReturn (d : Dev nD) : Valuation τ sig (Elt F) := Function.update (atCall m d) bo (output m d)

/-- At the end. -/
def atEnd (d : Dev nD) : Valuation τ sig (Elt F) := after postOps (atReturn m d)

/-- The arrays other than the call's four. -/
abbrev others : Finset (DevRef τ sig) := tcRefs τ sig \ {bx, bt, bq, bo}

theorem four_sub : ({bx, bt, bq, bo} : Finset (DevRef τ sig)) ⊆ tcRefs τ sig := by
  intro b hb
  simp only [Finset.mem_insert, Finset.mem_singleton] at hb
  rcases hb with rfl | rfl | rfl | rfl <;> exact devRef_mem_tcRefs _

/-- The TensorCore's arrays are the call's four and the others. -/
theorem held_four (d : Dev nD) (W : Valuation τ sig (Elt F)) :
    (held (SparseCore.T d) (tcRefs τ sig) W : sProp 𝕄)
      = iprop(((xLoc d ↦{fullShare} W bx) ∗ (tLoc d ↦{fullShare} W bt) ∗ (qLoc d ↦{fullShare} W bq) ∗ (oLoc d ↦{fullShare} W bo))
          ∗ held (SparseCore.T d) others W) := by
  unfold held
  rw [SparseCore.bigSep_sdiff_split' four_sub, SparseCore.bigSep_insert' (by decide), SparseCore.bigSep_insert' (by decide),
    SparseCore.bigSep_insert' (by decide), bigSep_singleton]

theorem held_return (d : Dev nD) : (held (SparseCore.T d) others (atReturn m d) : sProp 𝕄) = held (SparseCore.T d) others (atCall m d) :=
  held_congr _ fun b hb => Function.update_of_ne (fun e => (Finset.mem_sdiff.mp hb).2 (by rw [e]; simp)) _ _

theorem atReturn_x (d : Dev nD) : atReturn m d bx = (given m d).x := Function.update_of_ne (show bx ≠ bo by decide) _ _
theorem atReturn_t (d : Dev nD) : atReturn m d bt = (given m d).t := Function.update_of_ne (show bt ≠ bo by decide) _ _
theorem atReturn_q (d : Dev nD) : atReturn m d bq = (given m d).q := Function.update_of_ne (show bq ≠ bo by decide) _ _
theorem atReturn_o (d : Dev nD) : atReturn m d bo = output m d := Function.update_self _ _ _

/-- The launch's arrays of the TensorCore, as one family. -/
theorem launch_held (d : Dev nD) :
    (unscopedBufs d (fun b => m ((SparseCore.T d).loc b)) : sProp 𝕄) = held (SparseCore.T d) (tcRefs τ sig) (fun b => m (d, b)) := by
  unfold unscopedBufs held tcRefs
  rw [show (Finset.univ.filter fun b : Ref sig .tc => ¬ b.isScoped) = Finset.univ by decide, bigSep_map]
  rfl

/-! ## The run -/

abbrev pay : (K (F := F)).Pay (nD := nD) (Val := Elt F) (Name := ℕ) (U := UU) := P (given m)

/-- What the call takes for the two cores and what it gives back. -/
theorem taken (d : Dev nD) : (bigSep Finset.univ fun c : Fin ((K (F := F)).nCore 0) => (pay m).st 0 d c)
    = (iprop((xLoc d ↦{fullShare} (given m d).x) ∗ (tLoc d ↦{fullShare} (given m d).t) ∗ (qLoc d ↦{fullShare} (given m d).q)
        ∗ (oLoc d ↦{fullShare} (given m d).o)) : sProp 𝕄) :=
  pieces_eq (given m d) d _

theorem givenBack (d : Dev nD) : (bigSep Finset.univ fun c : Fin ((K (F := F)).nCore 0) => (pay m).dn 0 d c)
    = (iprop((xLoc d ↦{fullShare} (given m d).x) ∗ (tLoc d ↦{fullShare} (given m d).t) ∗ (qLoc d ↦{fullShare} (given m d).q)
        ∗ (oLoc d ↦{fullShare} output m d)) : sProp 𝕄) :=
  pieces_eq (given m d) d _

/-- What the program leaves: the TensorCore's arrays at their last contents. -/
abbrev FIN (d : Dev nD) : sProp 𝕄 := held (SparseCore.T d) (tcRefs τ sig) (atEnd m d)

/-- The TensorCore's program: the preparation, the call, the transposition. -/
theorem hmain (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, -⟩
  iapply (wp_seq 𝒱 none Set.univ d (tcRefs τ sig) _ preOps pre_sub pre_fresh (fun b => m (d, b))) $$ [Hb Hheld]
  · isplitl [Hb]; · iexact Hb
    iexact Hheld
  iintro ⟨Hb, Hheld⟩
  ihave Hh := (show (held (SparseCore.T d) (tcRefs τ sig) (after preOps fun b => m (d, b)) : sProp 𝕄) ⊢ _ from Entails.of_eq (held_four d (atCall m d))) $$ Hheld
  icases Hh with ⟨Hfour, Hrest⟩
  rw [wp_bind]
  iapply ((K (F := F)).wp_run (D (F := F)) 𝒱 (EH := EH) (P := pay m) κ d 0) $$ [Hst Hfour Hb Hrest Hts]
  isplitr; · iexact Hctx
  isplitl [Hst]; · iexact Hst
  isplitl [Hfour]
  · rw [taken]; iexact Hfour
  iintro ⟨Hst, Hdn⟩
  ihave Hdn' := (Entails.of_eq (givenBack m d)) $$ Hdn
  iapply (wp_seq 𝒱 none Set.univ d (tcRefs τ sig) _ postOps post_sub post_fresh (atReturn m d)) $$ [Hb Hdn' Hrest]
  · isplitl [Hb]; · iexact Hb
    rw [held_four, held_return, atReturn_x, atReturn_t, atReturn_q, atReturn_o]
    isplitl [Hdn']; · iexact Hdn'
    iexact Hrest
  iintro ⟨Hb, Hheld⟩
  rw [wp_pure]; imodintro
  isplitl [Hst]; · iexact Hst
  isplitl [Hheld]; · iexact Hheld
  isplitl [Hb] <;> iassumption

/-- The memory agrees with the last contents. -/
def fq (d : Dev nD) (s' : Phys nD τ sig (Elt F)) : Prop :=
  ∀ b : Ref sig .tc, s'.mem.mem ((SparseCore.T d).loc b) = atEnd m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-! ### The launch element -/

def u₀ : UU := (initOf (K (F := F)).hsCells (K (F := F)).hsToks, 1)

/-- Nothing, many times, is nothing. -/
theorem emp_all {I : Type} (s : Finset I) : (bigSep s fun _ => iprop(emp)) = (iprop(emp) : sProp 𝕄) := bigSep_emp_const s

/-- At the launch: the handshakes' rounds; nothing of the kernel's own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  unfold u₀
  iintro Hu
  ihave H := (ownU_pair _ _) $$ Hu
  icases H with ⟨HH, -⟩
  imodintro
  isplitl [HH]; · iexact HH
  isplitr; · rw [emp_all]; iempintro
  unfold pay P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-- Every execution of the program ends with every array of the TensorCore at its last contents and every counter at
    zero, given that every point's row lies inside the table. -/
theorem run_main [∀ e, Nonempty (Elt F e)]
    (hin : ∀ d j l, Inside (topOf (given m d).q l) (rateOf (given m d).q l) ((given m d).x j)) :
    θ_run (Cert.KernelIdeal.defs (F := F)) (Cert.KernelIdeal.threads (F := F)) ⟨m, fun _ => 0, ρ⟩ fun r =>
      (∀ (d : Dev nD) (b : Ref sig .tc), r.2.mem ((SparseCore.T d).loc b) = atEnd m d (Proc.devRef .tc b)) ∧ r.2.sem = fun _ => 0 :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (given m) hin)
    (fun q _ => match q with | 0 => SparseCore.Cfg.VecSplit.of_plain (vecSplit (given m)))
    m ρ main (fun _ => iprop(emp)) (FIN m) (u₀ (F := F)) (sep_elim_left.trans (hu₀ m)) (hmain m ρ) (fq m) (hfin m) _ (fun _ h hz => ⟨h, hz⟩)

end Cert.KernelIdeal.Bessel

end
-- ==== Proof.HostValues.lean ====
/-
  The arrays around the call in terms of the arguments: what the kernel is handed and what becomes of its output.
-/
module

public import proofs.«01_k».proof.Proof.Main

@[expose] public section

noncomputable section

namespace Cert.KernelIdeal.Bessel

open Cert.KernelIdeal Cert.KernelIdeal.Gen
open Idealize.ShloMosaic Idealize.ShloMosaic.TcCoe
open Idealize.SL.Sem
open Idealize.ShloMosaic.StableHlo

variable {F : FTy → Type} [FloatOps F]
variable (m : (ℓ : Loc nD τ sig) → Buf (Elt F) ℓ) (d : Dev nD)

/-! ## The arguments -/

abbrev argX : Vec F S6400000 .f32 := m ((d.tc : Thread nD τ).loc main_arg0)
abbrev argW : Vec F S8 .f32 := m ((d.tc : Thread nD τ).loc main_arg1)
abbrev argR : Vec F S5000 .f32 := m ((d.tc : Thread nD τ).loc main_arg2)
abbrev argT : Vec F S5000x8 .f32 := m ((d.tc : Thread nD τ).loc main_arg3)

/-- The grid's greatest entry. -/
def top : Vec F S_ .f32 := Host.reduce FloatOps.maximumf (argR m d) (constant S_ .f32 0xFF800000#32) reducesTo_S5000_S_d0 h_S_
/-- The number of intervals over the grid's greatest entry. -/
def rate : Vec F S_ .f32 := Host.divf (constant S_ .f32 0x459C3800#32) (top m d)
/-- The weights twice over. -/
def twice : Vec F S16 .f32 :=
  shapeCast S16 (broadcastInDim S2x8 ![0, 1] bcast_S1x8_S2x8_0_1 (shapeCast S1x8 (argW m d) shapeCasts_S8_S1x8)) shapeCasts_S2x8_S16

/-- Three vectors joined are determined by the three. -/
theorem concat_congr {a a' b b' c c' : Vec F S16 .f32} (ha : a = a') (hb : b = b') (hc : c = c') :
    concatenate S48 0 [⟨S16, a⟩, ⟨S16, b⟩, ⟨S16, c⟩] concatenates_S16_S16_S16_S48_d0
      = concatenate S48 0 [⟨S16, a'⟩, ⟨S16, b'⟩, ⟨S16, c'⟩] concatenates_S16_S16_S16_S48_d0 := by
  subst ha hb hc; rfl

theorem before_top : after (preOps.take 9) (fun b => m (d, b)) (Proc.devRef .tc main_v2) = broadcastInDim S16 ![] bcast_S_S16 (top m d) := by
  simp only [preOps, List.take_succ_cons, List.take_zero]; after_results <;> rfl
theorem before_rate : after (preOps.take 9) (fun b => m (d, b)) (Proc.devRef .tc main_v3) = broadcastInDim S16 ![] bcast_S_S16 (rate m d) := by
  simp only [preOps, List.take_succ_cons, List.take_zero]; after_results <;> rfl
theorem before_twice : after (preOps.take 9) (fun b => m (d, b)) (Proc.devRef .tc main_v6) = twice m d := by
  simp only [preOps, List.take_succ_cons, List.take_zero]; after_results <;> rfl

/-! ## What the call is handed -/

theorem given_x : (given m d).x = argX m d := by
  show atCall m d bx = _; unfold atCall; after_results <;> rfl
theorem given_t : (given m d).t = shapeCast S40000 (argT m d) shapeCasts_S5000x8_S40000 := by
  show atCall m d bt = _; unfold atCall; after_results <;> rfl
theorem given_q : (given m d).q = concatenate S48 0 [⟨S16, broadcastInDim S16 ![] bcast_S_S16 (top m d)⟩,
    ⟨S16, broadcastInDim S16 ![] bcast_S_S16 (rate m d)⟩, ⟨S16, twice m d⟩] concatenates_S16_S16_S16_S48_d0 := by
  show atCall m d bq = _; unfold atCall; after_results
  refine concat_congr ?_ ?_ ?_
  · exact before_top m d
  · exact before_rate m d
  · exact before_twice m d

/-! ## What is left at the end -/

theorem end_x : atEnd m d (Proc.devRef .tc main_arg0) = argX m d := by
  have h : atReturn m d (Proc.devRef .tc main_arg0) = argX m d := (atReturn_x m d).trans (given_x m d)
  rw [← h]; unfold atEnd; after_results <;> rfl

theorem end_of (b : Ref sig .tc) (h9 : Proc.devRef (τ := τ) .tc b ≠ bo)
    (h : atEnd m d (Proc.devRef .tc b) = atReturn m d (Proc.devRef .tc b)) : atEnd m d (Proc.devRef .tc b) = atCall m d (Proc.devRef .tc b) :=
  h.trans (Function.update_of_ne h9 _ _)

theorem end_w : atEnd m d (Proc.devRef .tc main_arg1) = argW m d :=
  (end_of m d main_arg1 (by decide) (by unfold atEnd; after_results <;> rfl)).trans (by unfold atCall; after_results <;> rfl)
theorem end_r : atEnd m d (Proc.devRef .tc main_arg2) = argR m d :=
  (end_of m d main_arg2 (by decide) (by unfold atEnd; after_results <;> rfl)).trans (by unfold atCall; after_results <;> rfl)
theorem end_t : atEnd m d (Proc.devRef .tc main_arg3) = argT m d :=
  (end_of m d main_arg3 (by decide) (by unfold atEnd; after_results <;> rfl)).trans (by unfold atCall; after_results <;> rfl)

/-- The result: the kernel's output, its last two axes exchanged, flattened to one row per point. -/
theorem end_out : atEnd m d (Proc.devRef .tc main_v11)
    = shapeCast S6400000x8 (transpose S50000x128x8 [0, 2, 1] (output m d) transposes_S50000x8x128_S50000x128x8_0_2_1)
        shapeCasts_S50000x128x8_S6400000x8 := by
  rw [← atReturn_o]; unfold atEnd; after_results <;> rfl

end Cert.KernelIdeal.Bessel

end
-- ==== Proof.Inside.lean ====
/-
  Points whose number of steps converts to an integer that is not negative have their eight values inside the table; and the
  program's run, its frame, under that condition.
-/
module

public import proofs.«01_k».proof.Proof.HostValues
public import proofs.«01_k».proof.Proof.Gen.Pre_positions_not_negative
public import Idealize.ShloMosaic.Lib.Affine
public import Idealize.ShloMosaic.Lib.IdealHost
public import Idealize.ShloMosaic.Lib.Pipeline.Value

@[expose] public section

noncomputable section

namespace Cert.KernelIdeal.Bessel

open Cert.KernelIdeal Cert.KernelIdeal.Gen
open Idealize.ShloMosaic Idealize.ShloMosaic.TcCoe
open Idealize.SL.Sem

/-! ## Words -/

/-- A word that is not negative, plus nothing or one, cut at 4999, times eight: at most `8 · 4999` (the one wrap, from the
    greatest word to the least, multiplies to zero). -/
theorem row_times_eight {n b : BitVec 32} (hn : 0 ≤ n.toInt) (hb : b.toNat ≤ 1) :
    (IntOp.muli (IntOp.minsi (IntOp.addi n b) 4999#32) 8#32).toNat ≤ 39992 := by
  have h1 : n.toNat < 2147483648 := by
    rw [BitVec.toInt_eq_toNat_cond] at hn
    have := n.isLt
    split at hn <;> omega
  have hadd : (n + b).toNat = n.toNat + b.toNat := by rw [BitVec.toNat_add]; omega
  unfold IntOp.muli IntOp.minsi IntOp.addi
  split
  · next h =>
    rw [BitVec.slt_iff_toInt_lt, BitVec.toInt_eq_toNat_cond, hadd, show (4999#32 : BitVec 32).toInt = 4999 by decide] at h
    rw [BitVec.toNat_mul, hadd, show (8#32 : BitVec 32).toNat = 8 by decide]
    split at h <;> omega
  · decide

variable {F : FTy → Type} [FloatOps F]

/-- The word one or zero chosen by a comparison is at most one. -/
theorem step_le (c : BitVec 1) : (Scalar.select c 1#32 0#32 : BitVec 32).toNat ≤ 1 := by
  revert c; decide

/-- A point whose number of steps converts to an integer that is not negative lies inside the table. -/
theorem inside_of {t r x : F .f32} (h : 0 ≤ (FloatOps.fptosi 32 (stepsF t r x)).toInt) : Inside t r x := by
  have := row_times_eight (b := Scalar.select (FloatOps.cmpf .olt (FloatOps.sitofp .f32 (FloatOps.fptosi 32 (stepsF t r x))) (stepsF t r x)) 1#32 0#32) h (step_le _)
  show (slotW t r x).toNat + 7 < 40000
  unfold slotW rowOf
  omega

/-! ## The parameters' vectors -/

variable (m : (ℓ : Loc nD τ sig) → Buf (Elt F) ℓ) (ρ : Dev nD → PrngReg) (d : Dev nD)

/-- The one index of a scalar. -/
abbrev at_ : S_.Idx := fun a => a.elim0

theorem eq_at_ (j : S_.Idx) : j = at_ := funext fun a => a.elim0

/-- Piece `k` of three vectors joined, at lane `l`. -/
theorem joined (a b c : Vec F S16 .f32) (l : S16.Idx) (k n : ℕ) (x : Vec F S16 .f32) (hn : n = 16 * k) (hk : k < 3)
    (hx : ([⟨S16, a⟩, ⟨S16, b⟩, ⟨S16, c⟩] : List ((s : Shape) × (s.Idx → F .f32)))[k] = ⟨S16, x⟩) :
    concatenate S48 0 [⟨S16, a⟩, ⟨S16, b⟩, ⟨S16, c⟩] concatenates_S16_S16_S16_S48_d0 (at48 (n + (l 0).val)) = x l := by
  have hl : (l 0).val < 16 := (l 0).isLt
  refine concatenate_apply_piece (t := S48) 0 [⟨S16, a⟩, ⟨S16, b⟩, ⟨S16, c⟩] concatenates_S16_S16_S16_S48_d0 (at48 (n + (l 0).val)) k hk
    S16 x hx rfl n ?_ l ?_ ?_
  · subst hn
    interval_cases k <;> rfl
  · exact fun a h => absurd (Subsingleton.elim (α := Fin 1) _ _) h
  · show n + (l 0).val = (n + (l 0).val) % 48
    omega

/-- A scalar laid along a vector. -/
theorem laid {s : Shape} (h : S_.BroadcastsInDim s ![]) {α : Type} (x : S_.Idx → α) (j : s.Idx) : broadcastInDim s ![] h x j = x at_ :=
  congrArg x (eq_at_ _)

/-- Every lane of the first vector is the grid's greatest entry. -/
theorem top_lane (l : S16.Idx) : topOf (given m d).q l = top m d at_ := by
  unfold topOf
  rw [given_q, ← laid bcast_S_S16 (top m d) l]
  refine Eq.trans (congrArg _ (congrArg at48 ?_)) (joined _ _ _ l 0 0 _ rfl (by decide) rfl)
  exact (Nat.zero_add _).symm
/-- Every lane of the second vector is the rate. -/
theorem rate_lane (l : S16.Idx) : rateOf (given m d).q l = rate m d at_ := by
  unfold rateOf
  rw [given_q, ← laid bcast_S_S16 (rate m d) l]
  exact joined _ _ _ l 1 16 _ rfl (by decide) rfl
/-- The third vector is the weights twice over. -/
theorem wgt_lane (l : S16.Idx) : wgtOf (given m d).q l = twice m d l := by
  unfold wgtOf
  rw [given_q]
  exact joined _ _ _ l 2 32 _ rfl (by decide) rfl

/-- The number of steps of point `j`. -/
abbrev stepsAt (j : S6400000.Idx) : F .f32 := stepsF (top m d at_) (rate m d at_) (argX m d j)

/-- No point's number of steps converts to a negative integer. -/
def NotNegative : Prop := ∀ d j, 0 ≤ (FloatOps.fptosi 32 (stepsAt m d j)).toInt

theorem given_inside (h : NotNegative m) (d : Dev nD) (j : S6400000.Idx) (l : S16.Idx) :
    Inside (topOf (given m d).q l) (rateOf (given m d).q l) ((given m d).x j) := by
  rw [top_lane, rate_lane, given_x]
  exact inside_of (h d j)

/-! ## The run, read at the arguments and the result -/

/-- Every execution ends with the arguments unchanged, the result the transposed output, the counters at zero. -/
theorem run_read [∀ e, Nonempty (Elt F e)] (h : NotNegative m) :
    θ_run (Cert.KernelIdeal.defs (F := F)) (Cert.KernelIdeal.threads (F := F)) ⟨m, fun _ => 0, ρ⟩ fun r =>
      (∀ c : Dev nD,
        (r.2.mem ((c.tc : Thread nD τ).loc main_v11)
          = shapeCast S6400000x8 (transpose S50000x128x8 [0, 2, 1] (output m c) transposes_S50000x8x128_S50000x128x8_0_2_1)
              shapeCasts_S50000x128x8_S6400000x8)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run Cert.KernelIdeal.defs _ _).mono (fun _ hr => ⟨fun c => ⟨(hr.1 c main_v11).trans (end_out m c), (hr.1 c main_arg0).trans (end_x m c),
      (hr.1 c main_arg1).trans (end_w m c), (hr.1 c main_arg2).trans (end_r m c), (hr.1 c main_arg3).trans (end_t m c)⟩, hr.2⟩)
    (run_main m ρ (given_inside m h))

/-! ## The precondition -/

/-- The precondition's test is that no number of steps converts to a negative integer. -/
theorem notNegative_of (h : ∀ c : Dev nD, Cert.Pre_positions_not_negative.fn (F := F) (argX m c) (argW m c) (argR m c) (argT m c) = fun _ => 1#1) :
    NotNegative m := by
  intro c j
  have hj := IntOp.cmpi_sge.mp (congrFun (h c) j)
  refine le_trans (le_of_eq ?_) (hj.trans (le_of_eq ?_))
  · rw [laid]; decide
  · refine congrArg (fun p => (FloatOps.fptosi 32 p : BitVec 32).toInt) (congrArg₂ FloatOps.mulf (congrArg₂ FloatOps.minimumf rfl ?_) ?_)
    · exact laid _ _ _
    · exact laid _ _ _

end Cert.KernelIdeal.Bessel

end
-- ==== Proof.Grid.lean ====
/-
  A uniform grid over the extended reals: the number of grid values below a point is the number of steps to it, rounded up, and
  that is the row the kernel computes.
-/
module

public import proofs.«01_k».proof.Proof.Inside
public import Idealize.ShloMosaic.PureOps.Ideal.Laws

@[expose] public section

noncomputable section

namespace Cert.KernelIdeal.Bessel

open Cert.KernelIdeal Cert.KernelIdeal.Gen
open Idealize.ShloMosaic Idealize.ShloMosaic.TcCoe
open Idealize.SL.Sem

/-! ## The constants -/

/-- The word of 4999, read as a real. -/
theorem word_4999 : Ideal.ofBits .f32 0x459C3800#32 = ((4999 : ℝ) : EReal) := by
  simp [Ideal.ofBits, Ideal.ieee, -EReal.coe_mul]; norm_num
/-- The word of plus infinity. -/
theorem word_top : Ideal.ofBits .f32 0x7F800000#32 = ⊤ := by
  simp [Ideal.ofBits, Ideal.ieee]
/-- The word of minus infinity. -/
theorem word_bot : Ideal.ofBits .f32 0xFF800000#32 = ⊥ := by
  simp [Ideal.ofBits, Ideal.ieee]

/-! ## Rounding up by rounding down -/

/-- The whole part of a real between 0 and 4999, as a word. -/
theorem whole_part {p : ℝ} (h0 : 0 ≤ p) (h1 : p ≤ 4999) :
    (FloatOps.fptosi (F := Ideal) (φ := .f32) 32 ((p : ℝ) : EReal) : BitVec 32) = BitVec.ofNat 32 ⌊p⌋₊ := by
  show BitVec.ofInt 32 (Ideal.toIntClamped (-(2 ^ (32 - 1) : Nat)) ((2 ^ (32 - 1) : Nat) - 1) ((p : ℝ) : EReal)) = _
  have hf : ((⌊p⌋₊ : ℕ) : ℤ) = ⌊p⌋ := Int.natCast_floor_eq_floor h0
  have hn : ⌊p⌋₊ ≤ 4999 := by
    have := Nat.floor_le_floor h1
    simpa using this
  rw [Ideal.toIntClamped_coe, if_pos h0, ← hf]
  norm_num
  rw [show min (2147483647 : ℤ) ((⌊p⌋₊ : ℕ) : ℤ) = ((⌊p⌋₊ : ℕ) : ℤ) by omega]
  exact BitVec.ofInt_natCast _ _

/-- The row of a real between 0 and 4999: the real rounded up. -/
theorem row_rounds_up {p : ℝ} (h0 : 0 ≤ p) (h1 : p ≤ 4999) : rowOf (F := Ideal) ((p : ℝ) : EReal) = BitVec.ofNat 32 ⌈p⌉₊ := by
  have hn : ⌊p⌋₊ ≤ 4999 := by
    have := Nat.floor_le_floor h1
    simpa using this
  have hc : ⌈p⌉₊ ≤ 4999 := Nat.ceil_le.2 (by exact_mod_cast h1)
  have hi : (BitVec.ofNat 32 ⌊p⌋₊).toInt = ((⌊p⌋₊ : ℕ) : ℤ) := by
    rw [BitVec.toInt_eq_toNat_cond, BitVec.toNat_ofNat]; omega
  have hcmp : (FloatOps.cmpf (F := Ideal) (φ := .f32) .olt (FloatOps.sitofp .f32 (BitVec.ofNat 32 ⌊p⌋₊)) ((p : ℝ) : EReal))
      = BitVec.ofBool (decide (((⌊p⌋₊ : ℕ) : ℝ) < p)) := by
    show Ideal.cmp .olt ((((BitVec.ofNat 32 ⌊p⌋₊).toInt : ℝ)) : EReal) ((p : ℝ) : EReal) = _
    rw [hi, Int.cast_natCast]
    simp only [Ideal.cmp, EReal.coe_lt_coe_iff]
  have hmin : ∀ n : ℕ, n ≤ 4999 → IntOp.minsi (BitVec.ofNat 32 n) 4999#32 = BitVec.ofNat 32 n := by
    intro n hn
    unfold IntOp.minsi
    split
    · rfl
    · next h =>
      have : n = 4999 := by
        rw [BitVec.slt_iff_toInt_lt, BitVec.toInt_eq_toNat_cond, BitVec.toNat_ofNat, show (4999#32 : BitVec 32).toInt = 4999 by decide] at h
        omega
      rw [this]
  unfold rowOf
  rw [whole_part h0 h1, hcmp]
  by_cases h : ((⌊p⌋₊ : ℕ) : ℝ) < p
  · have hceil : ⌈p⌉₊ = ⌊p⌋₊ + 1 := by
      refine le_antisymm (Nat.ceil_le_floor_add_one p) ?_
      exact Nat.lt_ceil.2 h
    rw [decide_eq_true h, hceil]
    show IntOp.minsi (BitVec.ofNat 32 ⌊p⌋₊ + 1#32) 4999#32 = _
    rw [show BitVec.ofNat 32 ⌊p⌋₊ + 1#32 = BitVec.ofNat 32 (⌊p⌋₊ + 1) by rw [BitVec.ofNat_add]]
    exact hmin _ (hceil ▸ hc)
  · have hceil : ⌈p⌉₊ = ⌊p⌋₊ := by
      refine le_antisymm ?_ (Nat.floor_le_ceil p)
      exact Nat.ceil_le.2 (not_lt.1 h)
    rw [decide_eq_false h, hceil]
    show IntOp.minsi (BitVec.ofNat 32 ⌊p⌋₊ + 0#32) 4999#32 = _
    rw [BitVec.add_zero]
    exact hmin _ hn

/-- How many of 0, …, 4999 lie below a real of at most 4999: the real rounded up. -/
theorem count_below {p : ℝ} (h1 : p ≤ 4999) : (Finset.univ.filter fun k : Fin 5000 => ((k.val : ℕ) : ℝ) < p).card = ⌈p⌉₊ := by
  have hc : ⌈p⌉₊ ≤ 4999 := Nat.ceil_le.2 (by exact_mod_cast h1)
  have : (Finset.univ.filter fun k : Fin 5000 => ((k.val : ℕ) : ℝ) < p) = Finset.Iio (⟨⌈p⌉₊, by omega⟩ : Fin 5000) := by
    ext k
    simp only [Finset.mem_filter, Finset.mem_univ, true_and, Finset.mem_Iio, Fin.lt_def]
    exact Nat.lt_ceil.symm
  rw [this, Fin.card_Iio]

/-! ## The grid -/

/-- A uniform grid: 4999 times entry `k` is `k` times the last one, which is neither negative nor infinite. -/
structure Uniform (R : Fin 5000 → EReal) (last : EReal) : Prop where
  nonneg : 0 ≤ last
  finite : last < ⊤
  even : ∀ k, ((4999 : ℝ) : EReal) * R k = (((k.val : ℕ) : ℝ) : EReal) * last

namespace Uniform
variable {R : Fin 5000 → EReal} {last : EReal} (h : Uniform R last)
include h

/-- The last entry is a real that is not negative. -/
theorem last_real : ∃ r : ℝ, 0 ≤ r ∧ last = (r : EReal) := by
  have hb : last ≠ ⊥ := fun e => by have := h.nonneg; rw [e] at this; exact absurd this (by simp)
  refine ⟨last.toReal, EReal.toReal_nonneg h.nonneg, (EReal.coe_toReal h.finite.ne hb).symm⟩

/-- Entry `k` is `k` of the 4999 equal parts of the last. -/
theorem entry {r : ℝ} (hr : last = (r : EReal)) (k : Fin 5000) : R k = ((((k.val : ℕ) : ℝ) * r / 4999 : ℝ) : EReal) := by
  have e := h.even k
  rw [hr, ← EReal.coe_mul] at e
  have ht : R k ≠ ⊤ := fun e' => by
    rw [e', EReal.coe_mul_top_of_pos (by norm_num)] at e
    exact (EReal.coe_ne_top _) e.symm
  have hb : R k ≠ ⊥ := fun e' => by
    rw [e', EReal.coe_mul_bot_of_pos (by norm_num)] at e
    exact (EReal.coe_ne_bot _) e.symm
  rw [← EReal.coe_toReal ht hb, ← EReal.coe_mul, EReal.coe_eq_coe_iff] at e
  rw [← EReal.coe_toReal ht hb, EReal.coe_eq_coe_iff]
  rw [← e]; ring

/-- No entry exceeds the last one. -/
theorem entry_le (k : Fin 5000) : R k ≤ last := by
  obtain ⟨r, hr0, hr⟩ := h.last_real
  rw [h.entry hr, hr, EReal.coe_le_coe_iff, div_le_iff₀ (by norm_num)]
  have : ((k.val : ℕ) : ℝ) ≤ 4999 := by exact_mod_cast Nat.le_of_lt_succ k.isLt
  nlinarith

/-- The entry numbered 4999 is the last one. -/
theorem entry_last : R ⟨4999, by omega⟩ = last := by
  obtain ⟨r, hr0, hr⟩ := h.last_real
  rw [h.entry hr, hr, EReal.coe_eq_coe_iff]
  norm_num

/-- The number of steps to a point that is not negative is a real between 0 and 4999, and an entry lies below the point cut at
    the last entry exactly when its number lies below the number of steps. -/
theorem steps {x : EReal} (hx : 0 ≤ x) : ∃ p : ℝ, 0 ≤ p ∧ p ≤ 4999
    ∧ stepsF (F := Ideal) last (Ideal.div ((4999 : ℝ) : EReal) last) x = (p : EReal)
    ∧ ∀ k, R k < min x last ↔ ((k.val : ℕ) : ℝ) < p := by
  obtain ⟨r, hr0, hr⟩ := h.last_real
  have hz0 : 0 ≤ min x last := le_min hx h.nonneg
  have hzt : min x last ≠ ⊤ := (lt_of_le_of_lt (min_le_right _ _) h.finite).ne
  have hzb : min x last ≠ ⊥ := fun e => by rw [e] at hz0; exact absurd hz0 (by simp)
  obtain ⟨z, hz⟩ : ∃ z : ℝ, min x last = (z : EReal) := ⟨_, (EReal.coe_toReal hzt hzb).symm⟩
  have hzr : z ≤ r := by
    have := min_le_right x last
    rw [hz, hr] at this
    exact_mod_cast this
  have hz0' : 0 ≤ z := by rw [hz] at hz0; exact_mod_cast hz0
  have hs : stepsF (F := Ideal) last (Ideal.div ((4999 : ℝ) : EReal) last) x = (z : EReal) * Ideal.div ((4999 : ℝ) : EReal) last := by
    show min x last * _ = _
    rw [hz]
  rcases hr0.eq_or_lt with h0 | hpos
  · have hz' : z = 0 := by linarith
    refine ⟨0, le_rfl, by norm_num, ?_, fun k => ?_⟩
    · rw [hs, hz']; simp
    · rw [h.entry hr, hz, EReal.coe_lt_coe_iff, ← h0, hz']
      have : (0 : ℝ) ≤ ((k.val : ℕ) : ℝ) := Nat.cast_nonneg _
      constructor
      · intro hh; simp at hh
      · intro hh; linarith
  · refine ⟨z * 4999 / r, by positivity, ?_, ?_, fun k => ?_⟩
    · rw [div_le_iff₀ hpos]; linarith
    · rw [hs, hr, Ideal.div_coe hpos.ne', ← EReal.coe_mul, ← EReal.coe_mul, EReal.coe_eq_coe_iff]
      ring
    · rw [h.entry hr, hz, EReal.coe_lt_coe_iff, div_lt_iff₀ (by norm_num), lt_div_iff₀ hpos]

/-- The row the kernel computes for a point that is not negative is the number of grid entries below the point cut at the last
    entry. -/
theorem row {x : EReal} (hx : 0 ≤ x) : ∃ n : Fin 5000,
    (Finset.univ.filter fun k : Fin 5000 => R k < min x last).card = n.val
      ∧ rowOf (F := Ideal) (stepsF (F := Ideal) last (Ideal.div ((4999 : ℝ) : EReal) last) x) = BitVec.ofNat 32 n.val := by
  obtain ⟨p, h0, h1, hp, hk⟩ := h.steps hx
  have hc : ⌈p⌉₊ ≤ 4999 := Nat.ceil_le.2 (by exact_mod_cast h1)
  refine ⟨⟨⌈p⌉₊, by omega⟩, ?_, ?_⟩
  · exact (congrArg Finset.card (Finset.filter_congr fun k _ => hk k)).trans (count_below h1)
  · rw [hp]
    exact row_rounds_up h0 h1

/-- The number of steps to a point that is not negative converts to an integer that is not negative. -/
theorem whole_nonneg {x : EReal} (hx : 0 ≤ x) :
    0 ≤ (FloatOps.fptosi (F := Ideal) (φ := .f32) 32 (stepsF (F := Ideal) last (Ideal.div ((4999 : ℝ) : EReal) last) x) : BitVec 32).toInt := by
  obtain ⟨p, h0, h1, hp, hk⟩ := h.steps hx
  have hn : ⌊p⌋₊ ≤ 4999 := by
    have := Nat.floor_le_floor h1
    simpa using this
  rw [hp, whole_part h0 h1, BitVec.toInt_eq_toNat_cond, BitVec.toNat_ofNat]
  omega

end Uniform

end Cert.KernelIdeal.Bessel

end
-- ==== Proof.Result.lean ====
/-
  The program's result read at a point and a value: the table's entry in the point's row times the value's weight.
-/
module

public import proofs.«01_k».proof.Proof.Inside
public import Idealize.ShloMosaic.Lib.ValueLayout

@[expose] public section

noncomputable section

namespace Cert.KernelIdeal.Bessel

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (d : Dev nD)

/-- The program's result: the tiles' output with its last two axes exchanged and its points in one row. -/
def resultOf : Vec F S6400000x8 .f32 :=
  shapeCast S6400000x8 (transpose S50000x128x8 [0, 2, 1] (output m d) transposes_S50000x8x128_S50000x128x8_0_2_1)
    shapeCasts_S50000x128x8_S6400000x8

/-- The flat table read at row `n`, value `b`. -/
theorem table_entry (n : Fin 5000) (b : Fin 8) : (given m d).t (at40000 (8 * n.val + b.val)) = argT m d (ix2 n b) := by
  rw [given_t]
  refine shapeCast_apply _ _ _ _ ?_
  rw [Shape.rowMajor_val_two, Shape.rowMajor_val_one]
  show n.val * 8 + b.val = (8 * n.val + b.val) % 40000
  have := n.isLt
  have := b.isLt
  omega

/-- A lane of the doubled weights is the weight numbered by the lane modulo eight. -/
theorem twice_entry (l : ℕ) (b : Fin 8) (hl : l % 8 = b.val) : twice m d (at16 l) = argW m d (ix1 b) := by
  have h16 : l % 16 / 8 < 2 := by omega
  have h8 : l % 16 % 8 = b.val := by omega
  unfold twice
  rw [shapeCast_apply _ shapeCasts_S2x8_S16 (at16 l) (ix2 (⟨l % 16 / 8, h16⟩ : Fin 2) b) (by
      rw [Shape.rowMajor_val_two, Shape.rowMajor_val_one]
      show l % 16 / 8 * 8 + b.val = l % 16
      omega),
    broadcastInDim_apply ![0, 1] bcast_S1x8_S2x8_0_1 _ _ (ix2 (0 : Fin 1) b) (fun a => match a with | ⟨0, _⟩ => rfl | ⟨1, _⟩ => rfl)]
  refine shapeCast_apply _ _ _ _ ?_
  rw [Shape.rowMajor_val_two, Shape.rowMajor_val_one]
  show b.val = 0 * 8 + b.val
  omega

/-- A position of the table is eight times the row. -/
theorem slot_of_row {t r x : F .f32} (n : Fin 5000) (hn : rowOf (stepsF t r x) = BitVec.ofNat 32 n.val) :
    (slotW t r x).toNat = 8 * n.val := by
  have := n.isLt
  unfold slotW IntOp.muli
  rw [hn, BitVec.toNat_mul, BitVec.toNat_ofNat, show (8#32 : BitVec 32).toNat = 8 by decide]
  omega

/-- Where point `p`'s row is `n`, its value `b` is the table's entry there times weight `b`. -/
theorem result_entry (p : Fin 6400000) (b : Fin 8) (n : Fin 5000) (hn : rowOf (stepsAt m d (ix1 p)) = BitVec.ofNat 32 n.val) :
    resultOf m d (ix2 p b) = FloatOps.mulf (argT m d (ix2 n b)) (argW m d (ix1 b)) := by
  have hp := p.isLt
  have hb := b.isLt
  have h1 : p.val / 128 < 50000 := by omega
  have h2 : p.val % 128 < 128 := by omega
  unfold resultOf
  rw [shapeCast_apply _ shapeCasts_S50000x128x8_S6400000x8 (ix2 p b) (ix3 (⟨p.val / 128, h1⟩ : Fin 50000) (⟨p.val % 128, h2⟩ : Fin 128) b) (by
      rw [Shape.rowMajor_val_three, Shape.rowMajor_val_two]
      show (p.val / 128 * 128 + p.val % 128) * 8 + b.val = p.val * 8 + b.val
      omega),
    transpose_ix3_021_apply]
  have hpoint : (given m d).x (at6400000 (128 * (p.val / 128) + p.val % 128)) = argX m d (ix1 p) := by
    rw [given_x]
    refine congrArg (argX m d) ?_
    rw [eq_at6400000 (ix1 p)]
    exact congrArg at6400000 (by show 128 * (p.val / 128) + p.val % 128 = p.val; omega)
  show look (scaled (given m d).t (given m d).q) ((slotW (topOf (given m d).q (at16 (p.val % 128))) (rateOf (given m d).q (at16 (p.val % 128)))
    ((given m d).x (at6400000 (128 * (p.val / 128) + p.val % 128)))).toNat + b.val) = _
  rw [hpoint, top_lane, rate_lane, slot_of_row n hn]
  show FloatOps.mulf ((given m d).t (at40000 (8 * n.val + b.val))) (wgtOf (given m d).q (at16 ((8 * n.val + b.val) % 40000))) = _
  rw [table_entry, wgt_lane, twice_entry m d _ b]
  have := n.isLt
  omega

end Cert.KernelIdeal.Bessel

end
-- ==== Proof.Reference.lean ====
/-
  The reference's result read at a point and a value: its weight times the table's entry in the row that counts the grid entries
  below the point cut at the grid's greatest entry.
-/
module

public import proofs.«01_k».proof.Proof.Gen.ReferenceIdeal.Run
public import Idealize.ShloMosaic.PureOps.Ideal.Laws
public import Idealize.ShloMosaic.Lib.Routing.Ops
public import Idealize.ShloMosaic.Lib.Affine

@[expose] public section

noncomputable section

namespace Cert.ReferenceIdeal.Bessel

open Cert.ReferenceIdeal Cert.ReferenceIdeal.Gen
open Idealize.ShloMosaic Idealize.ShloMosaic.TcCoe Idealize.ShloMosaic.ValueIdx
open Idealize.ShloMosaic.StableHlo Idealize.ShloMosaic.StableHlo.Predicate
open Idealize.SL.Sem

variable {F : FTy → Type} [FloatOps F]
variable (x : Vec F S6400000 .f32) (w : Vec F S8 .f32) (r : Vec F S5000 .f32) (t : Vec F S5000x8 .f32)

/-- The points cut at the grid's greatest entry. -/
def cut : Vec F S6400000 .f32 :=
  minimumf x (broadcastInDim S6400000 ![] bcast_S_S6400000
    (Host.reduce FloatOps.maximumf r (constant S_ .f32 0xFF800000#32) reducesTo_S5000_S_d0 h_S_))

/-- For every point and grid entry, whether the entry lies below the point. -/
def below : IVec S6400000x5000 1 :=
  cmpf .olt
    (broadcastInDim S6400000x5000 ![0, 1] bcast_S1x5000_S6400000x5000_0_1 (broadcastInDim S1x5000 ![1] bcast_S5000_S1x5000_1 r))
    (broadcastInDim S6400000x5000 ![0, 1] bcast_S6400000x1_S6400000x5000_0_1
      (broadcastInDim S6400000x1 ![0] bcast_S6400000_S6400000x1_0 (cut x r)))

/-- For every point, how many grid entries lie below it. -/
def counted : IVec S6400000 32 :=
  Host.reduce IntOp.addi (extui 32 (below x r) natLt_1_32) (constantI S_ 32 0#32) reducesTo_S6400000x5000_S6400000_d1 h_S_

/-- The rows read: the counts, a negative one moved up by the table's height. -/
def rows : IVec S6400000 32 :=
  select (cmpi .slt (counted x r) (broadcastInDim S6400000 ![] bcast_S_S6400000 (constantI S_ 32 0#32)))
    (addi (counted x r) (broadcastInDim S6400000 ![] bcast_S_S6400000 (constantI S_ 32 5000#32))) (counted x r)

/-- The reference's result. -/
def resultOf : Vec F S6400000x8 .f32 :=
  mulf (broadcastInDim S6400000x8 ![0, 1] bcast_S1x8_S6400000x8_0_1 (broadcastInDim S1x8 ![1] bcast_S8_S1x8_1 w))
    (Host.gather gather_S5000x8_S6400000x1_S6400000x8_1_0_n_n_0_1_18 t
      (broadcastInDim S6400000x1 ![0] bcast_S6400000_S6400000x1_0 (rows x r)))

/-- Bit `(p, k)`: grid entry `k` compared with point `p` cut at the greatest entry. -/
theorem below_entry (p : Fin 6400000) (k : Fin 5000) :
    below x r (ij p k) = FloatOps.cmpf .olt (r (Shape.Idx.ofFin k)) (cut x r (Shape.Idx.ofFin p)) := by
  show FloatOps.cmpf .olt _ _ = _
  rw [bcast_cols, bcast_rows]

/-- The count of point `p` is the number of grid entries below it. -/
theorem counted_entry (p : Fin 6400000) : (counted x r (Shape.Idx.ofFin p)).toNat
    = (Finset.univ.filter fun k : Fin 5000 => FloatOps.cmpf .olt (r (Shape.Idx.ofFin k)) (cut x r (Shape.Idx.ofFin p)) = 1#1).card := by
  unfold counted
  rw [toNat_reduce_count_cols (by decide)]
  exact congrArg Finset.card (Finset.filter_congr fun k _ => by rw [← below_entry]; rfl)

/-- The same with the indices written by their one coordinate. -/
theorem counted_at (p : Fin 6400000) : (counted x r (ix1 p)).toNat
    = (Finset.univ.filter fun k : Fin 5000 => FloatOps.cmpf .olt (r (ix1 k)) (cut x r (ix1 p)) = 1#1).card := by
  have hi : ∀ {n : ℕ} (k : Fin n), Shape.Idx.ofFin k = ix1 k := fun k => eq_ix1 _
  simpa only [hi] using counted_entry x r p

/-- A choice between another vector and this one, where this one is below zero, keeps an entry that is not negative. -/
theorem kept {s : Shape} (c z y : IVec s 32) (i : s.Idx) (hz : z i = 0#32) (hc : 0 ≤ (c i).toInt) :
    select (cmpi .slt c z) y c i = c i := by
  have h : ¬ IntOp.cmpi .slt (c i) (z i) = 1#1 := fun e => by
    have := IntOp.cmpi_slt.1 e
    rw [hz, show (0#32 : BitVec 32).toInt = 0 by decide] at this
    omega
  exact if_neg h

/-- Where point `p`'s count is `n`, below the table's height, its value `b` is weight `b` times the table's entry in row `n`. -/
theorem result_entry (p : Fin 6400000) (b : Fin 8) (n : Fin 5000)
    (hn : (Finset.univ.filter fun k : Fin 5000 => FloatOps.cmpf .olt (r (ix1 k)) (cut x r (ix1 p)) = 1#1).card = n.val) :
    resultOf x w r t (ix2 p b) = FloatOps.mulf (w (ix1 b)) (t (ix2 n b)) := by
  have hc : counted x r (ix1 p) = BitVec.ofNat 32 n.val := by
    apply BitVec.eq_of_toNat_eq
    rw [counted_at, hn, BitVec.toNat_ofNat]
    have := n.isLt
    omega
  have hrow : rows x r (ix1 p) = BitVec.ofNat 32 n.val := by
    rw [← hc]
    refine kept _ _ _ _ ?_ ?_
    · exact broadcastInDim_apply _ _ _ _ (fun a => a.elim0) fun a => a.elim0
    · rw [hc, BitVec.toInt_eq_toNat_cond, BitVec.toNat_ofNat]
      have := n.isLt
      omega
  have hg : Host.gather gather_S5000x8_S6400000x1_S6400000x8_1_0_n_n_0_1_18 t
      (broadcastInDim S6400000x1 ![0] bcast_S6400000_S6400000x1_0 (rows x r)) (ix2 p b) = t (ix2 n b) := by
    refine Routing.gather_row _ rfl rfl rfl rfl rfl t _ p b n ?_ (by decide)
    refine Eq.trans ?_ hrow
    exact broadcastInDim_apply _ _ _ _ _ fun a => match a with | ⟨0, _⟩ => rfl
  have hw : broadcastInDim S6400000x8 ![0, 1] bcast_S1x8_S6400000x8_0_1 (broadcastInDim S1x8 ![1] bcast_S8_S1x8_1 w) (ix2 p b) = w (ix1 b) := by
    rw [broadcastInDim_apply ![0, 1] bcast_S1x8_S6400000x8_0_1 _ _ (ix2 (0 : Fin 1) b) (fun a => match a with | ⟨0, _⟩ => rfl | ⟨1, _⟩ => rfl)]
    exact broadcastInDim_apply _ _ _ _ _ fun a => match a with | ⟨0, _⟩ => rfl
  show FloatOps.mulf _ _ = _
  rw [hg, hw]

end Cert.ReferenceIdeal.Bessel

end
-- ==== Proof.Equation.lean ====
/-
  Over the extended reals and for a uniform grid: the program's result is the reference's.
-/
module

public import proofs.«01_k».proof.Proof.Grid
public import proofs.«01_k».proof.Proof.Result
public import proofs.«01_k».proof.Proof.Reference
public import proofs.«01_k».proof.Proof.Gen.Pre_uniform_grid
public import Idealize.ShloMosaic.Lib.ReduceAll

@[expose] public section

noncomputable section

namespace Cert.KernelIdeal.Bessel

open Cert.KernelIdeal Cert.KernelIdeal.Gen
open Idealize.ShloMosaic Idealize.ShloMosaic.TcCoe Idealize.ShloMosaic.ValueIdx
open Idealize.SL.Sem

/-! ## Comparisons -/

theorem bit_one {b : Bool} (h : BitVec.ofBool b = 1#1) : b = true := by revert h; cases b <;> decide

theorem le_of_oge {x y : EReal} (h : FloatOps.cmpf (F := Ideal) (φ := .f32) .oge x y = 1#1) : y ≤ x :=
  of_decide_eq_true (bit_one h)
theorem eq_of_oeq {x y : EReal} (h : FloatOps.cmpf (F := Ideal) (φ := .f32) .oeq x y = 1#1) : x = y :=
  of_decide_eq_true (bit_one h)
theorem olt_iff {x y : EReal} : FloatOps.cmpf (F := Ideal) (φ := .f32) .olt x y = 1#1 ↔ x < y :=
  ⟨fun h => of_decide_eq_true (bit_one h), fun h => congrArg BitVec.ofBool (decide_eq_true h)⟩

/-! ## The precondition -/

/-- The grid's entries by their numbers. -/
abbrev entries (r : Vec Ideal S5000 .f32) : Fin 5000 → EReal := fun k => r (ix1 k)
/-- The grid's last entry. -/
abbrev lastOf (r : Vec Ideal S5000 .f32) : EReal := entries r ⟨4999, by omega⟩

/-- The precondition's last entry is the grid's entry numbered 4999. -/
theorem last_entry (r : Vec Ideal S5000 .f32) (h : S5000.Slices ![4999] Cert.Pre_uniform_grid.S1)
    (h' : Cert.Pre_uniform_grid.S1.ShapeCasts S_) (j : S_.Idx) :
    shapeCast S_ (extractStridedSlice Cert.Pre_uniform_grid.S1 ![4999] r h) h' j = lastOf r := by
  rw [shapeCast_apply _ h' j (ix1 (0 : Fin 1)) (by rw [Shape.rowMajor_val_one]; exact (Nat.lt_one_iff.1 (S_.rowMajor j).isLt).symm)]
  exact extractStridedSlice_apply _ _ _ _ _ fun a => match a with | ⟨0, _⟩ => rfl

/-- The precondition states that no point is negative and that the grid is uniform. -/
theorem uniform_of {x : Vec Ideal S6400000 .f32} {w : Vec Ideal S8 .f32} {r : Vec Ideal S5000 .f32} {t : Vec Ideal S5000x8 .f32}
    (h : Cert.Pre_uniform_grid.fn (F := Ideal) x w r t = fun _ => 1#1) :
    (∀ p : Fin 6400000, (0 : EReal) ≤ x (ix1 p)) ∧ Uniform (entries r) (lastOf r) := by
  have parts (p : Fin 6400000) := IntOp.andi_eq_one.1 (congrFun h (ix1 p))
  have parts' (p : Fin 6400000) := IntOp.andi_eq_one.1 (parts p).1
  have parts'' (p : Fin 6400000) := IntOp.andi_eq_one.1 (parts' p).1
  have p0 : Fin 6400000 := ⟨0, by decide⟩
  refine ⟨fun p => ?_, ?_, ?_, fun k => ?_⟩
  · have e := le_of_oge (parts'' p).1
    rw [laid] at e
    exact le_trans (le_of_eq Ideal.ofBits_zero_f32.symm) e
  · have e := (parts' p0).2
    rw [laid] at e
    have e' := le_of_oge e
    rw [last_entry] at e'
    exact le_trans (le_of_eq Ideal.ofBits_zero_f32.symm) e'
  · have e := (parts p0).2
    rw [laid] at e
    have e' := olt_iff.1 e
    rw [last_entry] at e'
    exact lt_of_lt_of_eq e' word_top
  · have e := (parts'' p0).2
    rw [laid] at e
    have : Subsingleton S_.Idx := ⟨fun a b => (eq_at_ a).trans (eq_at_ b).symm⟩
    have e' := eq_of_oeq (Host.reduce_andi_all _ _ _ _ _ e (ix1 k))
    have hk : (BitVec.ofNat 32 k.val).toInt = ((k.val : ℕ) : ℤ) := by
      rw [BitVec.toInt_eq_toNat_cond, BitVec.toNat_ofNat]
      have := k.isLt
      omega
    refine (congrArg₂ (· * ·) ?_ rfl).trans (e'.trans (congrArg₂ (· * ·) ?_ ?_))
    · rw [laid]; exact word_4999.symm
    · show ((((BitVec.ofNat 32 k.val).toInt : ℤ) : ℝ) : EReal) = _
      rw [hk, Int.cast_natCast]
    · rw [laid]; exact last_entry _ _ _ _

/-! ## The greatest entry and the rate -/

variable (m : (ℓ : Loc nD τ sig) → Buf (Elt Ideal) ℓ) (d : Dev nD)

/-- The greatest entry of a uniform grid is its last. -/
theorem greatest {r : Vec Ideal S5000 .f32} (h : Uniform (entries r) (lastOf r)) (hr : S5000.ReducesTo [0] S_) (hu : 0 < S_.numel) (j : S_.Idx) :
    Host.reduce (FloatOps.maximumf (F := Ideal) (φ := .f32)) r (constant (F := Ideal) S_ .f32 0xFF800000#32) hr hu j = lastOf r := by
  have all : ∀ i : S5000.Idx, hr.drop i = j := fun i => (eq_at_ _).trans (eq_at_ _).symm
  rw [Host.reduce_eq_fold]
  show (Finset.univ.filter fun i => hr.drop i = j).fold max (Ideal.ofBits .f32 0xFF800000#32) r = lastOf r
  refine le_antisymm (Finset.fold_max_le _ |>.2 ⟨?_, fun i _ => ?_⟩) (Finset.le_fold_max _ |>.2 (Or.inr ⟨_, ?_, le_rfl⟩))
  · rw [word_bot]; exact bot_le
  · rw [eq_ix1 i]
    exact h.entry_le (i 0)
  · exact Finset.mem_filter.2 ⟨Finset.mem_univ _, all _⟩

theorem top_eq (h : Uniform (entries (argR m d)) (lastOf (argR m d))) : top m d at_ = lastOf (argR m d) := greatest h _ _ _

/-- A quotient with a constant on top, at its one place. -/
theorem quotient (y : Vec Ideal S_ .f32) (j : S_.Idx) (bits : BitVec 32) :
    Host.divf (F := Ideal) (constant (F := Ideal) S_ .f32 bits) y j = Ideal.div (Ideal.ofBits .f32 bits) (y j) := rfl

theorem rate_eq (h : Uniform (entries (argR m d)) (lastOf (argR m d))) :
    rate m d at_ = Ideal.div ((4999 : ℝ) : EReal) (lastOf (argR m d)) := by
  unfold rate
  rw [quotient, top_eq m d h, word_4999]

/-- Under the precondition no point's number of steps converts to a negative integer. -/
theorem notNegative_of_uniform
    (h : ∀ c : Dev nD, Cert.Pre_uniform_grid.fn (F := Ideal) (argX m c) (argW m c) (argR m c) (argT m c) = fun _ => 1#1) : NotNegative m := by
  intro c j
  obtain ⟨hx, hg⟩ := uniform_of (h c)
  obtain ⟨p, rfl⟩ : ∃ p : Fin 6400000, j = ix1 p := ⟨_, eq_ix1 j⟩
  have := hg.whole_nonneg (hx p)
  unfold stepsAt
  rw [top_eq m c hg, rate_eq m c hg]
  exact this

/-! ## The equation -/

/-- Under the precondition the program's result is the reference's. -/
theorem result_eq (h : Cert.Pre_uniform_grid.fn (F := Ideal) (argX m d) (argW m d) (argR m d) (argT m d) = fun _ => 1#1) :
    resultOf m d = Cert.ReferenceIdeal.Bessel.resultOf (F := Ideal) (argX m d) (argW m d) (argR m d) (argT m d) := by
  obtain ⟨hx, hg⟩ := uniform_of h
  funext j
  obtain ⟨p, b, rfl⟩ : ∃ (p : Fin 6400000) (b : Fin 8), j = ix2 p b := ⟨_, _, eq_ix2 j⟩
  obtain ⟨n, hn, hrow⟩ := hg.row (hx p)
  have hcut : Cert.ReferenceIdeal.Bessel.cut (F := Ideal) (argX m d) (argR m d) (ix1 p)
      = min (argX m d (ix1 p)) (lastOf (argR m d)) := by
    show min _ _ = _
    rw [laid, greatest hg]
  rw [result_entry m d p b n (by unfold stepsAt; rw [top_eq m d hg, rate_eq m d hg]; exact hrow),
    Cert.ReferenceIdeal.Bessel.result_entry _ _ _ _ p b n (by
      rw [hcut, ← hn]
      refine congrArg Finset.card (Finset.ext fun k => ?_)
      simp only [Finset.mem_filter, Finset.mem_univ, true_and]
      exact olt_iff)]
  exact mul_comm _ _

end Cert.KernelIdeal.Bessel

end
-- ==== Proof.lean ====
/-
  The claim: the kernel runs, leaves its arguments as they were and every counter at zero; the idealized kernel and the reference
  do too; and over the extended reals, for a uniform grid and points that are not negative, the idealized kernel's result is the
  reference's.

  The modules: `Block`, `Values`, `Group`, `Chunk`, `Setup` and `Tile` prove one tile's run; `Launch` and `Main` the whole
  program's; `HostValues`, `Inside` and `Result` read its buffers at an index; `Reference` reads the reference's result; `Grid`
  and `Equation` prove the two equal.
-/
module

public import proofs.«01_k».proof.Defs
public import proofs.«01_k».proof.Proof.Equation
public import proofs.«01_k».proof.Proof.Gen.Kernel
public import proofs.«01_k».proof.Proof.Gen.Kernel.Skeleton

@[expose] public section

noncomputable section

namespace Cert.Proof

open Idealize.ShloMosaic Idealize.SL.Sem Cert.KernelIdeal.Bessel

/-! ## The frames -/

/-- The kernel's frame: the idealized kernel's text is the kernel's own, so the run proved for any float values serves for
    the float words. -/
theorem frame_kernel : Cert.quiescent_Kernel := fun m ρ h =>
  (θ_run Cert.KernelIdeal.defs _ _).mono (fun _ hr => ⟨fun c => (hr.1 c).2, hr.2⟩) (run_read (F := Bits) m ρ (notNegative_of m h))

/-- The idealized kernel's frame. -/
theorem frame_ideal : Cert.quiescent_KernelIdeal := fun m ρ h =>
  (θ_run Cert.KernelIdeal.defs _ _).mono (fun _ hr => ⟨fun c => (hr.1 c).2, hr.2⟩) (run_read (F := Ideal) m ρ (notNegative_of m h))

/-- The idealized kernel's frame for a uniform grid. -/
theorem frame_ideal_uniform : Cert.quiescent_KernelIdeal_pre_uniform_grid := fun m ρ h =>
  (θ_run Cert.KernelIdeal.defs _ _).mono (fun _ hr => ⟨fun c => (hr.1 c).2, hr.2⟩) (run_read (F := Ideal) m ρ (notNegative_of_uniform m h))

/-- The reference's frame. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-! ## The equation -/

/-- For a uniform grid both programs end with one result, their arguments unchanged. -/
theorem equation : Cert.algebraic_KernelIdeal_ReferenceIdeal_pre_uniform_grid := fun m ρ m' ρ' h agree =>
  ⟨fun c => resultOf m c,
    (θ_run Cert.KernelIdeal.defs _ _).mono (fun _ hr c => hr.1 c) (run_read (F := Ideal) m ρ (notNegative_of_uniform m h)),
    (θ_run Cert.ReferenceIdeal.defs _ _).mono (fun r hr c => ⟨(hr c).1.trans (by
        obtain ⟨h0, h1, h2, h3⟩ := agree c
        rw [h0, h1, h2, h3]
        exact (result_eq m c (h c)).symm), (hr c).2⟩)
      (Cert.ReferenceIdeal.Value.run (F := Ideal) m' ρ')⟩

/-- Everything claimed, with the facts the programs and the preconditions state. -/
theorem claim : Cert.Claim :=
  ⟨Cert.Kernel.Gen.facts, Cert.KernelIdeal.Gen.facts, Cert.ReferenceIdeal.Gen.facts,
    Cert.Pre_positions_not_negative.Gen.facts, Cert.Pre_uniform_grid.Gen.facts,
    frame_kernel, frame_ideal, frame_ideal_uniform, frame_reference, fun m ρ _ => frame_reference m ρ trivial, trivial, equation⟩

end Cert.Proof

end
